-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = Layout.block ⟨3, ![2, 256, 512]⟩ ⟨3, ![8, 256, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S8x256x16x64 : Shape := ⟨4, ![8, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S8x256x16x64 : S_.BroadcastsInDim S8x256x16x64 (![] : Fin 0 → Fin S8x256x16x64.rank)
  reducesTo_S8x256x16x64_S_d0_1_2_3 : S8x256x16x64.ReducesTo [0, 1, 2, 3] S_

variable [Facts]

def fn {F : FTy → Type} [FloatOps F] (main_arg0 : FVec F S2x256x512 .f32) (main_arg1 : FVec F S512x256 .f32) (main_arg2 : FVec F S8x256x16x64 .f32) (main_arg3 : FVec F S8x256x16x64 .f32) (main_arg4 : FVec F S256x512 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S8x256x16x64 .f32 := Host.absf main_arg2
  let main_cst_2 : FVec F S_ .f32 := constant S_ .f32 0x7F800000#32
  let main_v10 : FVec F S8x256x16x64 .f32 := broadcastInDim S8x256x16x64 ![] bcast_S_S8x256x16x64 main_cst_2
  let main_v11 : IVec S8x256x16x64 1 := cmpf .olt main_v9 main_v10
  let main_c_3 : IVec S_ 1 := constantI S_ 1 1#1
  let main_v12 : IVec S_ 1 := (fun x v => Host.reduce IntOp.andi x v reducesTo_S8x256x16x64_S_d0_1_2_3 h_S_) main_v11 main_c_3
  let main_v13 : IVec S_ 1 := andi main_v8 main_v12
  main_v13
-- ==== Pre_finite_ReferenceIdeal.lean ====
abbrev S8x256x512 : Shape := ⟨3, ![8, 256, 512]⟩
abbrev S512x1024 : Shape := ⟨2, ![512, 1024]⟩
abbrev S8x256x16x64 : Shape := ⟨4, ![8, 256, 16, 64]⟩
abbrev S1024x512 : Shape := ⟨2, ![1024, 512]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S8x256x16x64 : S_.BroadcastsInDim S8x256x16x64 (![] : Fin 0 → Fin S8x256x16x64.rank)
  reducesTo_S8x256x16x64_S_d0_1_2_3 : S8x256x16x64.ReducesTo [0, 1, 2, 3] S_

variable [Facts]

def fn {F : FTy → Type} [FloatOps F] (main_arg0 : FVec F S8x256x512 .f32) (main_arg1 : FVec F S512x1024 .f32) (main_arg2 : FVec F S8x256x16x64 .f32) (main_arg3 : FVec F S8x256x16x64 .f32) (main_arg4 : FVec F S1024x512 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S8x256x16x64 .f32 := Host.absf main_arg2
  let main_cst_2 : FVec F S_ .f32 := constant S_ .f32 0x7F800000#32
  let main_v10 : FVec F S8x256x16x64 .f32 := broadcastInDim S8x256x16x64 ![] bcast_S_S8x256x16x64 main_cst_2
  let main_v11 : IVec S8x256x16x64 1 := cmpf .olt main_v9 main_v10
  let main_c_3 : IVec S_ 1 := constantI S_ 1 1#1
  let main_v12 : IVec S_ 1 := (fun x v => Host.reduce IntOp.andi x v reducesTo_S8x256x16x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S8x256x16x64 : Shape := ⟨4, ![8, 256, 16, 64]⟩
abbrev S256x512 : Shape := ⟨2, ![256, 512]⟩
abbrev S_ : Shape := ⟨0, ![]⟩
abbrev S2x256x16x64 : Shape := ⟨4, ![2, 256, 16, 64]⟩
abbrev S2x256x1024 : Shape := ⟨3, ![2, 256, 1024]⟩
abbrev S256x256 : Shape := ⟨2, ![256, 256]⟩
abbrev S6 : Shape := ⟨1, ![6]⟩
abbrev S1 : Shape := ⟨1, ![1]⟩
abbrev S1x256x512 : Shape := ⟨3, ![1, 256, 512]⟩
abbrev S1x256x256 : Shape := ⟨3, ![1, 256, 256]⟩
abbrev S256x64 : Shape := ⟨2, ![256, 64]⟩
abbrev S256 : Shape := ⟨1, ![256]⟩
abbrev S256x1 : Shape := ⟨2, ![256, 1]⟩

abbrev nBuf : Space → Nat
  | .hbm => 38
  | .vmem => 16
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S8x256x16x64, .f32⟩
  | .hbm, ⟨3, _⟩ => ⟨S8x256x16x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x16x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x16x64, .f32⟩
  | .hbm, ⟨33, _⟩ => ⟨S2x256x1024, .f32⟩
  | .hbm, ⟨34, _⟩ => ⟨S2x256x1024, .bf16⟩
  | .hbm, ⟨35, _⟩ => ⟨S2x256x1024, .f32⟩
  | .hbm, ⟨36, _⟩ => ⟨S2x256x1024, .bf16⟩
  | .hbm, ⟨37, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S256x512, .f32⟩
  | .local _ .vmem, ⟨3, _⟩ => ⟨S2x256x1024, .bf16⟩
  | .local _ .vmem, ⟨4, _⟩ => ⟨S2x256x1024, .bf16⟩
  | .local _ .vmem, ⟨5, _⟩ => ⟨S2x256x512, .f32⟩
  | .local _ .vmem, ⟨6, _⟩ => ⟨S2x256x512, .bf16⟩
  | .local _ .vmem, ⟨7, _⟩ => ⟨S512x256, .bf16⟩
  | .local _ .vmem, ⟨8, _⟩ => ⟨S256x512, .bf16⟩
  | .local _ .vmem, ⟨9, _⟩ => ⟨S512x256, .bf16⟩
  | .local _ .vmem, ⟨10, _⟩ => ⟨S256x512, .bf16⟩
  | .local _ .vmem, ⟨11, _⟩ => ⟨S512x256, .bf16⟩
  | .local _ .vmem, ⟨12, _⟩ => ⟨S256x512, .bf16⟩
  | .local _ .vmem, ⟨13, _⟩ => ⟨S512x256, .bf16⟩
  | .local _ .vmem, ⟨14, _⟩ => ⟨S256x512, .bf16⟩
  | .local _ .vmem, ⟨15, _⟩ => ⟨S256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_7 : BitVec 32 := 1#32
  let v11 : BitVec 32 := Scalar.muli v7 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_9 : BitVec 32 := 1#32
  let v13 : BitVec 32 := Scalar.muli v4 c1_i32_9
  let v14 : BitVec 32 := Scalar.addi c0_i32_10 v13
  v14.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_27 : BitVec 32 := 1#32
  let v35 : BitVec 32 := Scalar.muli v4 c1_i32_27
  let v36 : BitVec 32 := Scalar.addi c0_i32_28 v35
  v36.toNat
def k0_dev4 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_31 : BitVec 32 := 1#32
  let v41 : BitVec 32 := Scalar.muli v4 c1_i32_31
  let v42 : BitVec 32 := Scalar.addi c0_i32_32 v41
  v42.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_35 : BitVec 32 := 1#32
  let v47 : BitVec 32 := Scalar.muli v7 c1_i32_35
  let v48 : BitVec 32 := Scalar.addi c0_i32_36 v47
  v48.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_38 : BitVec 32 := 1#32
  let v53 : BitVec 32 := Scalar.muli v7 c1_i32_38
  let v54 : BitVec 32 := Scalar.addi c0_i32_39 v53
  v54.toNat
def k0_off1 (d0 : Dev nD) : Fin 3 → Nat :=
  let c0_51 : Index := 0#32
  let c0_52 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v78 : BitVec 32 := Scalar.muli v2 c256_i32
  let v84 : Index := Scalar.indexCast v78
  ![0, 0, v84.toNat]
def k0_off2 (d0 : Dev nD) : Fin 3 → Nat :=
  let c1_85 : Index := 1#32
  let c0_86 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_79 : BitVec 32 := 256#32
  let v156 : BitVec 32 := Scalar.muli v2 c256_i32_79
  let v162 : Index := Scalar.indexCast v156
  ![1, 0, v162.toNat]
def k0_dev7 (d0 : Dev nD) : Nat :=
  let c0_i32_132 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_131 : BitVec 32 := 1#32
  let v248 : BitVec 32 := Scalar.muli v4 c1_i32_131
  let v249 : BitVec 32 := Scalar.addi c0_i32_132 v248
  v249.toNat
def k0_off3 (d0 : Dev nD) : Fin 3 → Nat :=
  let c0_140 : Index := 0#32
  let c0_141 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c256_i32_133 : BitVec 32 := 256#32
  let v254 : BitVec 32 := Scalar.muli v7 c256_i32_133
  let v260 : Index := Scalar.indexCast v254
  ![0, 0, v260.toNat]
def k0_off4 (d0 : Dev nD) : Fin 3 → Nat :=
  let c1_175 : Index := 1#32
  let c0_176 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c256_i32_168 : BitVec 32 := 256#32
  let v332 : BitVec 32 := Scalar.muli v7 c256_i32_168
  let v338 : Index := Scalar.indexCast v332
  ![1, 0, v338.toNat]
def k0_off5 (d0 : Dev nD) (c1_i32_0 : BitVec 32) : Fin 3 → Nat :=
  let c0_236 : Index := 0#32
  let c0_237 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c256_i32_229 : BitVec 32 := 256#32
  let v434 : BitVec 32 := Scalar.muli v4 c256_i32_229
  let v440 : Index := Scalar.indexCast v434
  ![0, 0, v440.toNat]
def k0_dev8 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_269 : BitVec 32 := 1#32
  let v516 : BitVec 32 := Scalar.muli v7 c1_i32_269
  let v517 : BitVec 32 := Scalar.addi c0_i32_270 v516
  v517.toNat
def k0_off6 (d0 : Dev nD) (c1_i32_0 : BitVec 32) : Fin 3 → Nat :=
  let c1_278 : Index := 1#32
  let c0_279 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c256_i32_271 : BitVec 32 := 256#32
  let v522 : BitVec 32 := Scalar.muli v4 c256_i32_271
  let v528 : Index := Scalar.indexCast v522
  ![1, 0, v528.toNat]
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x256x512 : Shape := ⟨3, ![8, 256, 512]⟩
abbrev S512x1024 : Shape := ⟨2, ![512, 1024]⟩
abbrev S8x256x16x64 : Shape := ⟨4, ![8, 256, 16, 64]⟩
abbrev S1024x512 : Shape := ⟨2, ![1024, 512]⟩
abbrev S8x256x1024 : Shape := ⟨3, ![8, 256, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S8x16x256x256 : Shape := ⟨4, ![8, 16, 256, 256]⟩
abbrev S1x1x256x256 : Shape := ⟨4, ![1, 1, 256, 256]⟩
abbrev S8x16x256 : Shape := ⟨3, ![8, 16, 256]⟩
abbrev S8x16x256x1 : Shape := ⟨4, ![8, 16, 256, 1]⟩
abbrev S1x1x256x1 : Shape := ⟨4, ![1, 1, 256, 1]⟩
abbrev S8x16x64x256 : Shape := ⟨4, ![8, 16, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S512x1024, .f32⟩
  | .hbm, ⟨2, _⟩ => ⟨S8x256x16x64, .f32⟩
  | .hbm, ⟨3, _⟩ => ⟨S8x256x16x64, .f32⟩
  | .hbm, ⟨4, _⟩ => ⟨S1024x512, .f32⟩
  | .hbm, ⟨5, _⟩ => ⟨S8x256x1024, .f32⟩
  | .hbm, ⟨6, _⟩ => ⟨S8x256x16x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S8x16x256x256, .f32⟩
  | .hbm, ⟨29, _⟩ => ⟨S_, .f32⟩
  | .hbm, ⟨30, _⟩ => ⟨S8x16x256x256, .f32⟩
  | .hbm, ⟨31, _⟩ => ⟨S8x16x256x256, .f32⟩
  | .hbm, ⟨32, _⟩ => ⟨S1x1x256x256, .i1⟩
  | .hbm, ⟨33, _⟩ => ⟨S_, .f32⟩
  | .hbm, ⟨34, _⟩ => ⟨S_, .f32⟩
  | .hbm, ⟨35, _⟩ => ⟨S8x16x256x256, .i1⟩
  | .hbm, ⟨36, _⟩ => ⟨S8x16x256x256, .f32⟩
  | .hbm, ⟨37, _⟩ => ⟨S8x16x256x256, .f32⟩
  | .hbm, ⟨38, _⟩ => ⟨S_, .f32⟩
  | .hbm, ⟨39, _⟩ => ⟨S8x16x256, .f32⟩
  | .hbm, ⟨40, _⟩ => ⟨S8x16x256x1, .f32⟩
  | .hbm, ⟨41, _⟩ => ⟨S8x16x256x256, .f32⟩
  | .hbm, ⟨42, _⟩ => ⟨S8x16x256x256, .f32⟩
  | .hbm, ⟨43, _⟩ => ⟨S8x16x256x256, .f32⟩
  | .hbm, ⟨44, _⟩ => ⟨S_, .i1⟩
  | .hbm, ⟨45, _⟩ => ⟨S256, .i1⟩
  | .hbm, ⟨46, _⟩ => ⟨S1x1x256x1, .i1⟩
  | .hbm, ⟨47, _⟩ => ⟨S_, .f32⟩
  | .hbm, ⟨48, _⟩ => ⟨S8x16x256, .f32⟩
  | .hbm, ⟨49, _⟩ => ⟨S8x16x256x1, .f32⟩
  | .hbm, ⟨50, _⟩ => ⟨S_, .f32⟩
  | .hbm, ⟨51, _⟩ => ⟨S_, .f32⟩
  | .hbm, ⟨52, _⟩ => ⟨S8x16x256x1, .i1⟩
  | .hbm, ⟨53, _⟩ => ⟨S8x16x256x1, .f32⟩
  | .hbm, ⟨54, _⟩ => ⟨S8x16x256x1, .f32⟩
  | .hbm, ⟨55, _⟩ => ⟨S8x16x256x256, .f32⟩
  | .hbm, ⟨56, _⟩ => ⟨S8x16x256x256, .f32⟩
  | .hbm, ⟨57, _⟩ => ⟨S1x1x256x1, .i1⟩
  | .hbm, ⟨58, _⟩ => ⟨S_, .f32⟩
  | .hbm, ⟨59, _⟩ => ⟨S_, .f32⟩
  | .hbm, ⟨60, _⟩ => ⟨S8x16x256x256, .i1⟩
  | .hbm, ⟨61, _⟩ => ⟨S8x16x256x256, .f32⟩
  | .hbm, ⟨62, _⟩ => ⟨S8x16x256x256, .f32⟩
  | .hbm, ⟨63, _⟩ => ⟨S8x16x64x256, .f32⟩
  | .hbm, ⟨64, _⟩ => ⟨S8x256x16x64, .f32⟩
  | .hbm, ⟨65, _⟩ => ⟨S8x256x1024, .f32⟩
  | .hbm, ⟨66, _⟩ => ⟨S8x256x512, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Protocol.lean ====
/-
  The ring protocol of the kernel, before any run of it.

  Device `c` talks to its right neighbour `rt c` (`c + 1`) and its left neighbour `lf c` (`c + 3`), modulo 4. Its
  cells, each with one round:

  * the barrier cell: two units. One is signalled by `rt c`, which hands over its buffers that `c` copies into
    (`wq_l`, `wo_l`, `wq_o`), the other by `lf c`, which hands over its own (`wq_r`, `wo_r`, `wo_o`); with them
    comes the knowledge that the receive cells of those buffers are open;
  * the six receive cells, each paid by one copy. The landing leaves in the buffer of cell 0, 1 the weights of
    `lf c`, in that of 2, 3 the weights of `rt c`, in that of 4, 5 the weights of the device opposite: the query
    weights arrive through the left neighbour's `wq_l`, the output weights through the right neighbour's `wo_r`;
  * the six send cells, each paid by the same copies with the share of the source that was lent.

  The levels: the barrier below the receive cells 0 to 3, these below the receive cells 4 and 5, which are paid by
  copies that a device starts only after it has received.
-/
module

public import proofs.«01_k».proof.Proof.Gen.KernelIdeal.Launch
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Rounds.Family
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The ring -/

/-- The right neighbour, -/
def rt (c : Dev nD) : Dev nD := ⟨(c.val + 1) % 4, Nat.mod_lt _ (by decide)⟩
/-- the left one. -/
def lf (c : Dev nD) : Dev nD := ⟨(c.val + 3) % 4, Nat.mod_lt _ (by decide)⟩

theorem rt_lf (c : Dev nD) : rt (lf c) = c := by revert c; decide
theorem lf_rt (c : Dev nD) : lf (rt c) = c := by revert c; decide
theorem rt_rt (c : Dev nD) : rt (rt c) = lf (lf c) := by revert c; decide
theorem rt_ne_lf (c : Dev nD) : rt c ≠ lf c := by revert c; decide

/-- The two neighbour maps as permutations of the devices. -/
def toRt : Dev nD ≃ Dev nD := ⟨rt, lf, lf_rt, rt_lf⟩
def toLf : Dev nD ≃ Dev nD := ⟨lf, rt, rt_lf, lf_rt⟩

theorem dev1_eq (c : Dev nD) : (⟨k0_dev1 c, k0_dev1_lt c⟩ : Dev nD) = lf c := Fin.ext (k0_dev1_eq c)
theorem dev2_eq (c : Dev nD) : (⟨k0_dev2 c, k0_dev2_lt c⟩ : Dev nD) = rt c := Fin.ext (k0_dev2_eq c)
theorem dev3_eq (c : Dev nD) : (⟨k0_dev3 c, k0_dev3_lt c⟩ : Dev nD) = rt c := Fin.ext (k0_dev3_eq c)
theorem dev4_eq (c : Dev nD) : (⟨k0_dev4 c, k0_dev4_lt c⟩ : Dev nD) = rt c := Fin.ext (k0_dev4_eq c)
theorem dev5_eq (c : Dev nD) : (⟨k0_dev5 c, k0_dev5_lt c⟩ : Dev nD) = lf c := Fin.ext (k0_dev5_eq c)
theorem dev6_eq (c : Dev nD) : (⟨k0_dev6 c, k0_dev6_lt c⟩ : Dev nD) = lf c := Fin.ext (k0_dev6_eq c)
theorem dev7_eq (c : Dev nD) : (⟨k0_dev7 c, k0_dev7_lt c⟩ : Dev nD) = rt c := Fin.ext (k0_dev7_eq c)
theorem dev8_eq (c : Dev nD) : (⟨k0_dev8 c, k0_dev8_lt c⟩ : Dev nD) = lf c := Fin.ext (k0_dev8_eq c)

/-! ## The resource algebra -/

/-- The pipeline's own copy of the rounds algebra beside the ring's, whose duties are named by a Boolean. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Semaphores, cells, buffers -/

/-- The send semaphore and the receive semaphore of copy `k`. -/
def sS : Fin 6 → DmaSem sig := fun | 0 => 6 | 1 => 7 | 2 => 8 | 3 => 9 | 4 => 10 | 5 => 11
def sR : Fin 6 → DmaSem sig := fun | 0 => 12 | 1 => 13 | 2 => 14 | 3 => 15 | 4 => 16 | 5 => 17

abbrev barCell (c : Dev nD) : GSem nD τ sig := ((c : Thread nD τ), .reg barrier0)
abbrev sendCell (c : Dev nD) (k : Fin 6) : GSem nD τ sig := ((c : Thread nD τ), .dma (sS k))
abbrev recvCell (c : Dev nD) (k : Fin 6) : GSem nD τ sig := ((c : Thread nD τ), .dma (sR k))

/-- Buffer `b` of device `c`, a share `q` of it, at contents `f`. -/
abbrev ptq (c : Dev nD) (b : Ref sig .tc) (q : PosShare TreeShare) (f : b.ty.Contents (Elt F)) : sProp 𝕄 :=
  (Memref.whole b).view.loc (c : Thread nD τ) ↦{q} f
/-- The whole buffer. -/
abbrev pt (c : Dev nD) (b : Ref sig .tc) (f : b.ty.Contents (Elt F)) : sProp 𝕄 := ptq c b fullShare f
/-- The whole buffer, at contents not named. -/
abbrev ptAny (c : Dev nD) (b : Ref sig .tc) : sProp 𝕄 := iprop(∃ f : b.ty.Contents (Elt F), pt c b f)

abbrev wqB : Ref sig .tc := cc0_scratch1
abbrev woB : Ref sig .tc := cc0_scratch2
abbrev wqL : Ref sig .tc := cc0_scratch3
abbrev woL : Ref sig .tc := cc0_scratch4
abbrev wqR : Ref sig .tc := cc0_scratch5
abbrev woR : Ref sig .tc := cc0_scratch6
abbrev wqO : Ref sig .tc := cc0_scratch7
abbrev woO : Ref sig .tc := cc0_scratch8

/-- The shares of a device's own weights: one lent to the copy to the right, one to the copy to the left, one kept for
    its loads; -/
abbrev qA : PosShare TreeShare := fullShare.left
abbrev qB : PosShare TreeShare := fullShare.right.left
abbrev qC : PosShare TreeShare := fullShare.right.right

/-- The units a copy of query weights, a copy of output weights credits. -/
abbrev nQ : ℕ := (Memref.whole wqL).view.dmaCredit
abbrev nO : ℕ := (Memref.whole woL).view.dmaCredit

theorem nQ_pos : 0 < nQ := View.dmaCredit_pos _ (by decide)
theorem nO_pos : 0 < nO := View.dmaCredit_pos _ (by decide)

/-! ## The schedule -/

variable (Q : Dev nD → wqB.ty.Contents (Elt F)) (O : Dev nD → woB.ty.Contents (Elt F))

/-- What `rt c` hands to `c` with its barrier unit, -/
def barFromRt (c : Dev nD) : sProp 𝕄 :=
  iprop(ptAny (F := F) (rt c) wqL ∗ ptAny (F := F) (rt c) woL ∗ ptAny (F := F) (rt c) wqO
    ∗ reached ER (recvCell (rt c) 0) 0 ∗ reached ER (recvCell (rt c) 1) 0 ∗ reached ER (recvCell (rt c) 4) 0)
/-- and what `lf c` hands to `c`. -/
def barFromLf (c : Dev nD) : sProp 𝕄 :=
  iprop(ptAny (F := F) (lf c) wqR ∗ ptAny (F := F) (lf c) woR ∗ ptAny (F := F) (lf c) woO
    ∗ reached ER (recvCell (lf c) 2) 0 ∗ reached ER (recvCell (lf c) 3) 0 ∗ reached ER (recvCell (lf c) 5) 0)

/-- The payload of a transfer semaphore of device `c`: a send semaphore's is the share lent, a receive semaphore's is
    the buffer at the weights that landed. -/
def dmaPay (c : Dev nD) (s : DmaSem sig) : sProp 𝕄 :=
  match s.val with
  | 6 => ptq c wqB qA (Q c)
  | 7 => ptq c woB qA (O c)
  | 8 => ptq c wqB qB (Q c)
  | 9 => ptq c woB qB (O c)
  | 10 => ptq c wqL qA (Q (lf c))
  | 11 => ptq c woR qA (O (rt c))
  | 12 => pt c wqL (Q (lf c))
  | 13 => pt c woL (O (lf c))
  | 14 => pt c wqR (Q (rt c))
  | 15 => pt c woR (O (rt c))
  | 16 => pt c wqO (Q (lf (lf c)))
  | 17 => pt c woO (O (rt (rt c)))
  | _ => iprop(emp)

/-- The units of a transfer semaphore. -/
def dmaAmt (s : DmaSem sig) : ℕ :=
  match s.val with
  | 6 | 8 | 10 | 12 | 14 | 16 => nQ
  | _ => nO

theorem dmaAmt_pos (s : DmaSem sig) : 0 < dmaAmt s := by
  unfold dmaAmt
  split <;> first | exact nQ_pos | exact nO_pos

/-- Round 0 of every cell of the protocol: two duties on a barrier cell, one on a send or receive cell. -/
def sched : Rounds.Schedule (GSem nD τ sig) Bool 𝕄 where
  duties g r := if r = 0 ∧ g.1.2 = .tc then (match g.2 with
    | .reg _ => {true, false}
    | .dma _ => {true}) else ∅
  unitless _ := False
  amount g _ _ := match g.2 with
    | .reg _ => 1
    | .dma s => dmaAmt s
  payload g _ d := match g.2 with
    | .reg _ => if d then barFromRt g.1.1 else barFromLf g.1.1
    | .dma s => dmaPay Q O g.1.1 s
  amount_pos g _ _ _ := by
    rcases g with ⟨t, s | s⟩
    · exact Nat.one_pos
    · exact dmaAmt_pos s

instance sched_storable (g : GSem nD τ sig) (r : ℕ) (d : Bool) :
    BI.Storable (upEmb : UEmb _ 𝕄) ((sched (F := F) Q O).payload g r d) := by
  rcases g with ⟨t, s | s⟩
  · show BI.Storable upEmb (if d then barFromRt t.1 else barFromLf t.1)
    unfold barFromRt barFromLf
    split <;> infer_instance
  · show BI.Storable upEmb (dmaPay Q O t.1 s)
    unfold dmaPay
    split <;> infer_instance

section Tables

variable (c : Dev nD)

theorem duties_bar : (sched (F := F) Q O).duties (barCell c) 0 = {true, false} := by
  dsimp only [sched]; exact if_pos ⟨rfl, rfl⟩
theorem duties_dma (s : DmaSem sig) : (sched (F := F) Q O).duties ((c : Thread nD τ), .dma s) 0 = {true} := by
  dsimp only [sched]; exact if_pos ⟨rfl, rfl⟩
theorem duties_later (g : GSem nD τ sig) : ∀ r, 1 ≤ r → (sched (F := F) Q O).duties g r = ∅ :=
  fun r hr => if_neg fun h => by omega

theorem amount_bar (r : ℕ) (d : Bool) : (sched (F := F) Q O).amount (barCell c) r d = 1 := rfl
theorem amount_dma (s : DmaSem sig) (r : ℕ) (d : Bool) : (sched (F := F) Q O).amount ((c : Thread nD τ), .dma s) r d = dmaAmt s := rfl

theorem expect_bar : (sched (F := F) Q O).expect (barCell c) 0 = 2 := by
  unfold Schedule.expect Schedule.amountOf
  rw [duties_bar]; rfl
theorem expect_dma (s : DmaSem sig) : (sched (F := F) Q O).expect ((c : Thread nD τ), .dma s) 0 = dmaAmt s := by
  unfold Schedule.expect Schedule.amountOf
  rw [duties_dma, Finset.sum_singleton, amount_dma]

theorem payload_bar_rt : (sched (F := F) Q O).payload (barCell c) 0 true
    = iprop((∃ f, (Memref.whole wqL).view.loc ((rt c : Dev nD) : Thread nD τ) ↦{fullShare} f) ∗ (∃ f, (Memref.whole woL).view.loc ((rt c : Dev nD) : Thread nD τ) ↦{fullShare} f) ∗ (∃ f, (Memref.whole wqO).view.loc ((rt c : Dev nD) : Thread nD τ) ↦{fullShare} f)
      ∗ reached ER (recvCell (rt c) 0) 0 ∗ reached ER (recvCell (rt c) 1) 0 ∗ reached ER (recvCell (rt c) 4) 0) := rfl
theorem payload_bar_lf : (sched (F := F) Q O).payload (barCell c) 0 false
    = iprop((∃ f, (Memref.whole wqR).view.loc ((lf c : Dev nD) : Thread nD τ) ↦{fullShare} f) ∗ (∃ f, (Memref.whole woR).view.loc ((lf c : Dev nD) : Thread nD τ) ↦{fullShare} f) ∗ (∃ f, (Memref.whole woO).view.loc ((lf c : Dev nD) : Thread nD τ) ↦{fullShare} f)
      ∗ reached ER (recvCell (lf c) 2) 0 ∗ reached ER (recvCell (lf c) 3) 0 ∗ reached ER (recvCell (lf c) 5) 0) := rfl
theorem payload_send0 (d : Bool) : (sched (F := F) Q O).payload (sendCell c 0) 0 d = ((Memref.whole wqB).view.loc ((c : Dev nD) : Thread nD τ) ↦{qA} (Q c)) := rfl
theorem payload_send1 (d : Bool) : (sched (F := F) Q O).payload (sendCell c 1) 0 d = ((Memref.whole woB).view.loc ((c : Dev nD) : Thread nD τ) ↦{qA} (O c)) := rfl
theorem payload_send2 (d : Bool) : (sched (F := F) Q O).payload (sendCell c 2) 0 d = ((Memref.whole wqB).view.loc ((c : Dev nD) : Thread nD τ) ↦{qB} (Q c)) := rfl
theorem payload_send3 (d : Bool) : (sched (F := F) Q O).payload (sendCell c 3) 0 d = ((Memref.whole woB).view.loc ((c : Dev nD) : Thread nD τ) ↦{qB} (O c)) := rfl
theorem payload_send4 (d : Bool) : (sched (F := F) Q O).payload (sendCell c 4) 0 d = ((Memref.whole wqL).view.loc ((c : Dev nD) : Thread nD τ) ↦{qA} (Q (lf c))) := rfl
theorem payload_send5 (d : Bool) : (sched (F := F) Q O).payload (sendCell c 5) 0 d = ((Memref.whole woR).view.loc ((c : Dev nD) : Thread nD τ) ↦{qA} (O (rt c))) := rfl
theorem payload_recv0 (d : Bool) : (sched (F := F) Q O).payload (recvCell c 0) 0 d = ((Memref.whole wqL).view.loc ((c : Dev nD) : Thread nD τ) ↦{fullShare} (Q (lf c))) := rfl
theorem payload_recv1 (d : Bool) : (sched (F := F) Q O).payload (recvCell c 1) 0 d = ((Memref.whole woL).view.loc ((c : Dev nD) : Thread nD τ) ↦{fullShare} (O (lf c))) := rfl
theorem payload_recv2 (d : Bool) : (sched (F := F) Q O).payload (recvCell c 2) 0 d = ((Memref.whole wqR).view.loc ((c : Dev nD) : Thread nD τ) ↦{fullShare} (Q (rt c))) := rfl
theorem payload_recv3 (d : Bool) : (sched (F := F) Q O).payload (recvCell c 3) 0 d = ((Memref.whole woR).view.loc ((c : Dev nD) : Thread nD τ) ↦{fullShare} (O (rt c))) := rfl
theorem payload_recv4 (d : Bool) : (sched (F := F) Q O).payload (recvCell c 4) 0 d = ((Memref.whole wqO).view.loc ((c : Dev nD) : Thread nD τ) ↦{fullShare} (Q (lf (lf c)))) := rfl
theorem payload_recv5 (d : Bool) : (sched (F := F) Q O).payload (recvCell c 5) 0 d = ((Memref.whole woO).view.loc ((c : Dev nD) : Thread nD τ) ↦{fullShare} (O (rt (rt c)))) := rfl
theorem duties_send0 : (sched (F := F) Q O).duties (sendCell c 0) 0 = {true} := duties_dma Q O c _
theorem amount_send0 (d : Bool) : (sched (F := F) Q O).amount (sendCell c 0) 0 d = nQ := rfl
theorem expect_send0 : (sched (F := F) Q O).expect (sendCell c 0) 0 = nQ := expect_dma Q O c _
theorem duties_send1 : (sched (F := F) Q O).duties (sendCell c 1) 0 = {true} := duties_dma Q O c _
theorem amount_send1 (d : Bool) : (sched (F := F) Q O).amount (sendCell c 1) 0 d = nO := rfl
theorem expect_send1 : (sched (F := F) Q O).expect (sendCell c 1) 0 = nO := expect_dma Q O c _
theorem duties_send2 : (sched (F := F) Q O).duties (sendCell c 2) 0 = {true} := duties_dma Q O c _
theorem amount_send2 (d : Bool) : (sched (F := F) Q O).amount (sendCell c 2) 0 d = nQ := rfl
theorem expect_send2 : (sched (F := F) Q O).expect (sendCell c 2) 0 = nQ := expect_dma Q O c _
theorem duties_send3 : (sched (F := F) Q O).duties (sendCell c 3) 0 = {true} := duties_dma Q O c _
theorem amount_send3 (d : Bool) : (sched (F := F) Q O).amount (sendCell c 3) 0 d = nO := rfl
theorem expect_send3 : (sched (F := F) Q O).expect (sendCell c 3) 0 = nO := expect_dma Q O c _
theorem duties_send4 : (sched (F := F) Q O).duties (sendCell c 4) 0 = {true} := duties_dma Q O c _
theorem amount_send4 (d : Bool) : (sched (F := F) Q O).amount (sendCell c 4) 0 d = nQ := rfl
theorem expect_send4 : (sched (F := F) Q O).expect (sendCell c 4) 0 = nQ := expect_dma Q O c _
theorem duties_send5 : (sched (F := F) Q O).duties (sendCell c 5) 0 = {true} := duties_dma Q O c _
theorem amount_send5 (d : Bool) : (sched (F := F) Q O).amount (sendCell c 5) 0 d = nO := rfl
theorem expect_send5 : (sched (F := F) Q O).expect (sendCell c 5) 0 = nO := expect_dma Q O c _
theorem duties_recv0 : (sched (F := F) Q O).duties (recvCell c 0) 0 = {true} := duties_dma Q O c _
theorem amount_recv0 (d : Bool) : (sched (F := F) Q O).amount (recvCell c 0) 0 d = nQ := rfl
theorem expect_recv0 : (sched (F := F) Q O).expect (recvCell c 0) 0 = nQ := expect_dma Q O c _
theorem duties_recv1 : (sched (F := F) Q O).duties (recvCell c 1) 0 = {true} := duties_dma Q O c _
theorem amount_recv1 (d : Bool) : (sched (F := F) Q O).amount (recvCell c 1) 0 d = nO := rfl
theorem expect_recv1 : (sched (F := F) Q O).expect (recvCell c 1) 0 = nO := expect_dma Q O c _
theorem duties_recv2 : (sched (F := F) Q O).duties (recvCell c 2) 0 = {true} := duties_dma Q O c _
theorem amount_recv2 (d : Bool) : (sched (F := F) Q O).amount (recvCell c 2) 0 d = nQ := rfl
theorem expect_recv2 : (sched (F := F) Q O).expect (recvCell c 2) 0 = nQ := expect_dma Q O c _
theorem duties_recv3 : (sched (F := F) Q O).duties (recvCell c 3) 0 = {true} := duties_dma Q O c _
theorem amount_recv3 (d : Bool) : (sched (F := F) Q O).amount (recvCell c 3) 0 d = nO := rfl
theorem expect_recv3 : (sched (F := F) Q O).expect (recvCell c 3) 0 = nO := expect_dma Q O c _
theorem duties_recv4 : (sched (F := F) Q O).duties (recvCell c 4) 0 = {true} := duties_dma Q O c _
theorem amount_recv4 (d : Bool) : (sched (F := F) Q O).amount (recvCell c 4) 0 d = nQ := rfl
theorem expect_recv4 : (sched (F := F) Q O).expect (recvCell c 4) 0 = nQ := expect_dma Q O c _
theorem duties_recv5 : (sched (F := F) Q O).duties (recvCell c 5) 0 = {true} := duties_dma Q O c _
theorem amount_recv5 (d : Bool) : (sched (F := F) Q O).amount (recvCell c 5) 0 d = nO := rfl
theorem expect_recv5 : (sched (F := F) Q O).expect (recvCell c 5) 0 = nO := expect_dma Q O c _

end Tables

/-! ## What each core owes at launch; the levels -/

/-- Six landings and two barrier units. -/
def O₀ (c : Dev nD) : CellTallies nD τ sig Unit :=
  tallyAt (recvCell (lf c) 5) () nO + tallyAt (recvCell (rt c) 4) () nQ
    + tallyAt (recvCell (lf c) 3) () nO + tallyAt (recvCell (lf c) 2) () nQ
    + tallyAt (recvCell (rt c) 1) () nO + tallyAt (recvCell (rt c) 0) () nQ
    + tallyAt (barCell (rt c)) () 1 + tallyAt (barCell (lf c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore. -/
def slv : SemLoc sig → ℕ
  | .reg _ => 1
  | .dma s => if s.val < 12 then 0 else if s.val < 16 then 2 else 3
def lv (g : GSem nD τ sig) (_ : Unit) : ℕ := slv g.2

/-- Everything that `O` owes lies strictly above level `k`. -/
def Above (k : ℕ) (O : CellTallies nD τ sig Unit) : Prop := ∀ g u, 0 < O g u → u ∈ L g ∧ k < lv g u

theorem Above.zero (k : ℕ) : Above k 0 := fun _ _ h => absurd h (Nat.lt_irrefl 0)
theorem Above.tally (k : ℕ) (c : Dev nD) (sm : SemLoc sig) (n : ℕ) (h : k < slv sm) :
    Above k (tallyAt ((c : Thread nD τ), sm) () n) := fun g u hg => by
  rw [tallyAt_apply] at hg
  split at hg
  · next e => obtain ⟨rfl, rfl⟩ := e; exact ⟨by rw [L_tc]; exact Finset.mem_singleton_self _, h⟩
  · exact absurd hg (Nat.lt_irrefl 0)
theorem Above.add {k : ℕ} {O O' : CellTallies nD τ sig Unit} (h : Above k O) (h' : Above k O') : Above k (O + O') :=
  fun g u hg => by
    rw [Pi.add_apply, Finsupp.add_apply] at hg
    rcases Nat.add_pos_iff_pos_or_pos.mp hg with hg | hg
    · exact h g u hg
    · exact h' g u hg

theorem mayWait_above (c : Dev nD) (sm : SemLoc sig) (O : CellTallies nD τ sig Unit) (h : Above (slv sm) O) :
    (levAts L lv : sProp 𝕄) ⊢ MayWait (c : Thread nD τ) sm () O :=
  MayOwe.of_cut (L := L) (lev := lv) (slv sm) (fun p hp => by rw [Finset.mem_singleton.mp hp, L_tc]; exact Finset.mem_singleton_self _)
    (fun g u hg => (h g u hg).1) (fun p hp => by rw [Finset.mem_singleton.mp hp]; exact Nat.le_refl _)
    (fun g u hg => (h g u hg).2)

end Cert.Ring

end
-- ==== Proof.Steps.lean ====
module

-- What one device holds when the body starts, the steps of the protocol as rules on the program, and the contents that whole stores leave.

public import proofs.«01_k».proof.Proof.Protocol
public import Idealize.ShloMosaic.Lib.VecWindow
public import proofs.«01_k».proof.Proof.Gen.KernelIdeal.Points
public import proofs.«01_k».proof.Proof.Gen.KernelIdeal.Skeleton

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

variable (Q : Dev nD → wqB.ty.Contents (Elt F)) (O : Dev nD → woB.ty.Contents (Elt F))

/-- The invariants of the barrier and receive cells that device `c` waits on and of the barrier cells that it signals, -/
def invs (K : GSem nD τ sig → ℕ) (c : Dev nD) : sProp 𝕄 :=
  iprop(cellInv ER (sched Q O) (K (barCell c)) (barCell c)
    ∗ cellInv ER (sched Q O) (K (barCell (lf c))) (barCell (lf c))
    ∗ cellInv ER (sched Q O) (K (barCell (rt c))) (barCell (rt c))
    ∗ cellInv ER (sched Q O) (K (recvCell c 0)) (recvCell c 0)
    ∗ cellInv ER (sched Q O) (K (recvCell c 1)) (recvCell c 1)
    ∗ cellInv ER (sched Q O) (K (recvCell c 2)) (recvCell c 2)
    ∗ cellInv ER (sched Q O) (K (recvCell c 3)) (recvCell c 3)
    ∗ cellInv ER (sched Q O) (K (recvCell c 4)) (recvCell c 4)
    ∗ cellInv ER (sched Q O) (K (recvCell c 5)) (recvCell c 5))
/-- of its send cells, -/
def sndInvs (K : GSem nD τ sig → ℕ) (c : Dev nD) : sProp 𝕄 :=
  iprop(cellInv ER (sched Q O) (K (sendCell c 0)) (sendCell c 0)
    ∗ cellInv ER (sched Q O) (K (sendCell c 1)) (sendCell c 1)
    ∗ cellInv ER (sched Q O) (K (sendCell c 2)) (sendCell c 2)
    ∗ cellInv ER (sched Q O) (K (sendCell c 3)) (sendCell c 3)
    ∗ cellInv ER (sched Q O) (K (sendCell c 4)) (sendCell c 4)
    ∗ cellInv ER (sched Q O) (K (sendCell c 5)) (sendCell c 5))
/-- and of the receive cells that its copies pay. -/
def peerInvs (K : GSem nD τ sig → ℕ) (c : Dev nD) : sProp 𝕄 :=
  iprop(cellInv ER (sched Q O) (K (recvCell (rt c) 0)) (recvCell (rt c) 0)
    ∗ cellInv ER (sched Q O) (K (recvCell (rt c) 1)) (recvCell (rt c) 1)
    ∗ cellInv ER (sched Q O) (K (recvCell (lf c) 2)) (recvCell (lf c) 2)
    ∗ cellInv ER (sched Q O) (K (recvCell (lf c) 3)) (recvCell (lf c) 3)
    ∗ cellInv ER (sched Q O) (K (recvCell (rt c) 4)) (recvCell (rt c) 4)
    ∗ cellInv ER (sched Q O) (K (recvCell (lf c) 5)) (recvCell (lf c) 5))

instance invs_persistent (K : GSem nD τ sig → ℕ) (c : Dev nD) : BI.Persistent (invs Q O K c) := by unfold invs; infer_instance
instance sndInvs_persistent (K : GSem nD τ sig → ℕ) (c : Dev nD) : BI.Persistent (sndInvs Q O K c) := by unfold sndInvs; infer_instance
instance peerInvs_persistent (K : GSem nD τ sig → ℕ) (c : Dev nD) : BI.Persistent (peerInvs Q O K c) := by unfold peerInvs; infer_instance

theorem sndInvs_0 (K : GSem nD τ sig → ℕ) (c : Dev nD) : sndInvs Q O K c ⊢ cellInv ER (sched Q O) (K (sendCell c 0)) (sendCell c 0) := by
  unfold sndInvs; iintro ⟨#A0, #A1, #A2, #A3, #A4, #A5⟩; iexact A0
theorem peerInvs_0 (K : GSem nD τ sig → ℕ) (c : Dev nD) : peerInvs Q O K c ⊢ cellInv ER (sched Q O) (K (recvCell (rt c) 0)) (recvCell (rt c) 0) := by
  unfold peerInvs; iintro ⟨#A0, #A1, #A2, #A3, #A4, #A5⟩; iexact A0
theorem sndInvs_1 (K : GSem nD τ sig → ℕ) (c : Dev nD) : sndInvs Q O K c ⊢ cellInv ER (sched Q O) (K (sendCell c 1)) (sendCell c 1) := by
  unfold sndInvs; iintro ⟨#A0, #A1, #A2, #A3, #A4, #A5⟩; iexact A1
theorem peerInvs_1 (K : GSem nD τ sig → ℕ) (c : Dev nD) : peerInvs Q O K c ⊢ cellInv ER (sched Q O) (K (recvCell (rt c) 1)) (recvCell (rt c) 1) := by
  unfold peerInvs; iintro ⟨#A0, #A1, #A2, #A3, #A4, #A5⟩; iexact A1
theorem sndInvs_2 (K : GSem nD τ sig → ℕ) (c : Dev nD) : sndInvs Q O K c ⊢ cellInv ER (sched Q O) (K (sendCell c 2)) (sendCell c 2) := by
  unfold sndInvs; iintro ⟨#A0, #A1, #A2, #A3, #A4, #A5⟩; iexact A2
theorem peerInvs_2 (K : GSem nD τ sig → ℕ) (c : Dev nD) : peerInvs Q O K c ⊢ cellInv ER (sched Q O) (K (recvCell (lf c) 2)) (recvCell (lf c) 2) := by
  unfold peerInvs; iintro ⟨#A0, #A1, #A2, #A3, #A4, #A5⟩; iexact A2
theorem sndInvs_3 (K : GSem nD τ sig → ℕ) (c : Dev nD) : sndInvs Q O K c ⊢ cellInv ER (sched Q O) (K (sendCell c 3)) (sendCell c 3) := by
  unfold sndInvs; iintro ⟨#A0, #A1, #A2, #A3, #A4, #A5⟩; iexact A3
theorem peerInvs_3 (K : GSem nD τ sig → ℕ) (c : Dev nD) : peerInvs Q O K c ⊢ cellInv ER (sched Q O) (K (recvCell (lf c) 3)) (recvCell (lf c) 3) := by
  unfold peerInvs; iintro ⟨#A0, #A1, #A2, #A3, #A4, #A5⟩; iexact A3
theorem sndInvs_4 (K : GSem nD τ sig → ℕ) (c : Dev nD) : sndInvs Q O K c ⊢ cellInv ER (sched Q O) (K (sendCell c 4)) (sendCell c 4) := by
  unfold sndInvs; iintro ⟨#A0, #A1, #A2, #A3, #A4, #A5⟩; iexact A4
theorem peerInvs_4 (K : GSem nD τ sig → ℕ) (c : Dev nD) : peerInvs Q O K c ⊢ cellInv ER (sched Q O) (K (recvCell (rt c) 4)) (recvCell (rt c) 4) := by
  unfold peerInvs; iintro ⟨#A0, #A1, #A2, #A3, #A4, #A5⟩; iexact A4
theorem sndInvs_5 (K : GSem nD τ sig → ℕ) (c : Dev nD) : sndInvs Q O K c ⊢ cellInv ER (sched Q O) (K (sendCell c 5)) (sendCell c 5) := by
  unfold sndInvs; iintro ⟨#A0, #A1, #A2, #A3, #A4, #A5⟩; iexact A5
theorem peerInvs_5 (K : GSem nD τ sig → ℕ) (c : Dev nD) : peerInvs Q O K c ⊢ cellInv ER (sched Q O) (K (recvCell (lf c) 5)) (recvCell (lf c) 5) := by
  unfold peerInvs; iintro ⟨#A0, #A1, #A2, #A3, #A4, #A5⟩; iexact A5

/-- The rounds that device `c` knows open. -/
def knows (c : Dev nD) : sProp 𝕄 :=
  iprop(reached ER (barCell (lf c)) 0
    ∗ reached ER (barCell (rt c)) 0
    ∗ reached ER (sendCell c 0) 0
    ∗ reached ER (sendCell c 1) 0
    ∗ reached ER (sendCell c 2) 0
    ∗ reached ER (sendCell c 3) 0
    ∗ reached ER (sendCell c 4) 0
    ∗ reached ER (sendCell c 5) 0
    ∗ reached ER (recvCell c 0) 0
    ∗ reached ER (recvCell c 1) 0
    ∗ reached ER (recvCell c 2) 0
    ∗ reached ER (recvCell c 3) 0
    ∗ reached ER (recvCell c 4) 0
    ∗ reached ER (recvCell c 5) 0)

instance knows_persistent (c : Dev nD) : BI.Persistent (knows (F := F) c) := by unfold knows; infer_instance

/-- Its positions, -/
def ats (c : Dev nD) : sProp 𝕄 :=
  iprop(atPos ER (barCell c) 0 ∅ 0
    ∗ atPos ER (sendCell c 0) 0 ∅ 0
    ∗ atPos ER (sendCell c 1) 0 ∅ 0
    ∗ atPos ER (sendCell c 2) 0 ∅ 0
    ∗ atPos ER (sendCell c 3) 0 ∅ 0
    ∗ atPos ER (sendCell c 4) 0 ∅ 0
    ∗ atPos ER (sendCell c 5) 0 ∅ 0
    ∗ atPos ER (recvCell c 0) 0 ∅ 0
    ∗ atPos ER (recvCell c 1) 0 ∅ 0
    ∗ atPos ER (recvCell c 2) 0 ∅ 0
    ∗ atPos ER (recvCell c 3) 0 ∅ 0
    ∗ atPos ER (recvCell c 4) 0 ∅ 0
    ∗ atPos ER (recvCell c 5) 0 ∅ 0)
/-- the duties it pays, -/
def toks (c : Dev nD) : sProp 𝕄 :=
  iprop(dutyTok ER (barCell (lf c)) 0 true
    ∗ dutyTok ER (barCell (rt c)) 0 false
    ∗ dutyTok ER (sendCell c 0) 0 true
    ∗ dutyTok ER (sendCell c 1) 0 true
    ∗ dutyTok ER (sendCell c 2) 0 true
    ∗ dutyTok ER (sendCell c 3) 0 true
    ∗ dutyTok ER (sendCell c 4) 0 true
    ∗ dutyTok ER (sendCell c 5) 0 true
    ∗ dutyTok ER (recvCell (rt c) 0) 0 true
    ∗ dutyTok ER (recvCell (rt c) 1) 0 true
    ∗ dutyTok ER (recvCell (lf c) 2) 0 true
    ∗ dutyTok ER (recvCell (lf c) 3) 0 true
    ∗ dutyTok ER (recvCell (rt c) 4) 0 true
    ∗ dutyTok ER (recvCell (lf c) 5) 0 true)
/-- the credit it waits with. -/
def creds (c : Dev nD) : sProp 𝕄 :=
  iprop(cred (tallyAt (barCell c) () 2)
    ∗ cred (tallyAt (recvCell c 0) () nQ)
    ∗ cred (tallyAt (recvCell c 1) () nO)
    ∗ cred (tallyAt (recvCell c 2) () nQ)
    ∗ cred (tallyAt (recvCell c 3) () nO)
    ∗ cred (tallyAt (recvCell c 4) () nQ)
    ∗ cred (tallyAt (recvCell c 5) () nO))

/-- What it still owes when copy 5, copies 4 and 5, and so on are left to start. -/
abbrev D5 (c : Dev nD) : CellTallies nD τ sig Unit := tallyAt (recvCell (lf c) 5) () nO
abbrev D4 (c : Dev nD) : CellTallies nD τ sig Unit := D5 c + tallyAt (recvCell (rt c) 4) () nQ
abbrev D3 (c : Dev nD) : CellTallies nD τ sig Unit := D4 c + tallyAt (recvCell (lf c) 3) () nO
abbrev D2 (c : Dev nD) : CellTallies nD τ sig Unit := D3 c + tallyAt (recvCell (lf c) 2) () nQ
abbrev D1 (c : Dev nD) : CellTallies nD τ sig Unit := D2 c + tallyAt (recvCell (rt c) 1) () nO
abbrev D0 (c : Dev nD) : CellTallies nD τ sig Unit := D1 c + tallyAt (recvCell (rt c) 0) () nQ
abbrev DB (c : Dev nD) : CellTallies nD τ sig Unit := D0 c + tallyAt (barCell (rt c)) () 1

theorem O₀_eq (c : Dev nD) : O₀ c = DB c + tallyAt (barCell (lf c)) () 1 := rfl

/-- Levels: the barrier is waited on before any landing is owed to it, the first receives before the last two. -/
theorem mayWait_bar (c : Dev nD) : (levAts L lv : sProp 𝕄) ⊢ MayWait (c : Thread nD τ) (.reg barrier0) () (D0 c) :=
  mayWait_above c _ _ (by repeat' (first | refine Above.add ?_ ?_ | exact Above.tally _ _ _ _ (by decide)))
theorem mayWait_recv0 (c : Dev nD) : (levAts L lv : sProp 𝕄) ⊢ MayWait (c : Thread nD τ) (.dma (sR 0)) () (D4 c) :=
  mayWait_above c _ _ (by repeat' (first | refine Above.add ?_ ?_ | exact Above.tally _ _ _ _ (by decide)))
theorem mayWait_recv1 (c : Dev nD) : (levAts L lv : sProp 𝕄) ⊢ MayWait (c : Thread nD τ) (.dma (sR 1)) () (D5 c) :=
  mayWait_above c _ _ (Above.tally _ _ _ _ (by decide))
theorem mayWait_recv2 (c : Dev nD) : (levAts L lv : sProp 𝕄) ⊢ MayWait (c : Thread nD τ) (.dma (sR 2)) () (D5 c) :=
  mayWait_above c _ _ (Above.tally _ _ _ _ (by decide))
theorem mayWait_recv3 (c : Dev nD) : (levAts L lv : sProp 𝕄) ⊢ MayWait (c : Thread nD τ) (.dma (sR 3)) () (D5 c) :=
  mayWait_above c _ _ (Above.tally _ _ _ _ (by decide))

/-- A whole buffer in three shares. -/
theorem split3 (c : Dev nD) (b : Ref sig .tc) (f : b.ty.Contents (Elt F)) :
    ((Memref.whole b).view.loc (c : Thread nD τ) ↦{fullShare} f : sProp 𝕄)
      ⊣⊢ iprop(((Memref.whole b).view.loc (c : Thread nD τ) ↦{qA} f) ∗ ((Memref.whole b).view.loc (c : Thread nD τ) ↦{qB} f)
        ∗ ((Memref.whole b).view.loc (c : Thread nD τ) ↦{qC} f)) :=
  (pointsTo_share (PosShare.mem_left_op_right fullShare)).trans
    (sep_congr_right (pointsTo_share (PosShare.mem_left_op_right fullShare.right)))

/-- What a store of a whole buffer leaves. -/
theorem whole_store (b : Ref sig .tc) (f : b.ty.Contents (Elt F)) {off : Fin b.ty.shape.rank → ℕ} (inb : ∀ a, off a + b.ty.shape.size a ≤ b.ty.shape.size a)
    (w : (Rect.unit off b.ty.shape.size inb).shape.Idx → Elt F b.ty.elt) (L : List (View.Piece (Elt F) b.ty.shape b.ty.elt)) :
    (Memref.whole b).view.writes (Elt F) f (⟨Rect.unit off b.ty.shape.size inb, w⟩ :: L) = w :=
  View.read_writes_full (Memref.whole b).view f inb w L

/-- What a barrier wait brings, by its two parts. -/
theorem bar_open (c : Dev nD) : (Idealize.SL.BI.sep iprop((∃ f, (Memref.whole wqL).view.loc ((rt c : Dev nD) : Thread nD τ) ↦{fullShare} f) ∗ (∃ f, (Memref.whole woL).view.loc ((rt c : Dev nD) : Thread nD τ) ↦{fullShare} f) ∗ (∃ f, (Memref.whole wqO).view.loc ((rt c : Dev nD) : Thread nD τ) ↦{fullShare} f)
      ∗ reached ER (recvCell (rt c) 0) 0 ∗ reached ER (recvCell (rt c) 1) 0 ∗ reached ER (recvCell (rt c) 4) 0) iprop((∃ f, (Memref.whole wqR).view.loc ((lf c : Dev nD) : Thread nD τ) ↦{fullShare} f) ∗ (∃ f, (Memref.whole woR).view.loc ((lf c : Dev nD) : Thread nD τ) ↦{fullShare} f) ∗ (∃ f, (Memref.whole woO).view.loc ((lf c : Dev nD) : Thread nD τ) ↦{fullShare} f)
      ∗ reached ER (recvCell (lf c) 2) 0 ∗ reached ER (recvCell (lf c) 3) 0 ∗ reached ER (recvCell (lf c) 5) 0) : sProp 𝕄)
      ⊢ iprop(barFromRt (F := F) c ∗ barFromLf (F := F) c) := Entails.of_eq rfl

/-- A copy of a whole buffer of `c` into a whole buffer of `p`, under the protocol: a share of the source is lent, the
    destination is given away at what lands. -/
theorem send_step {sp sp' : Space} {s : Shape} {e : EltTy} {α : Type} {Kt : α → sProp 𝕄} (K : GSem nD τ sig → ℕ) (c p : Dev nD) {d : Dev nD} (hd : d = p)
    (src : Memref sig .tc sp s e) (dst : Memref sig .tc sp' s e) (a r : DmaSem sig)
    {hsc : dst.view.ref.isScScratch = false} {hsrc : src.view.WordExact} {hdst : dst.view.WordExact}
    {hsem : DmaTarget.Typed sp (.dma r) (.remote (d : Thread nD τ) dst (.dma a) hsc)}
    {k : PUnit → Prog (TpuEff nD τ sig (Elt F) Λ₀ .tc) α} (q : PosShare TreeShare)
    (fs : Buf (Elt F) (src.view.loc (c : Thread nD τ))) (fd fd' : Buf (Elt F) (dst.view.loc (p : Thread nD τ))) (N : ℕ)
    (hss : src.view.set = Finset.univ) (hds : dst.view.set = Finset.univ)
    (hland : dst.view.write (Elt F) fd (src.view.read (Elt F) fs) Finset.univ = fd')
    (hN : dst.view.amount (.dma r) = N) (ha : dmaAmt a = N) (hr : dmaAmt r = N)
    (hpa : dmaPay Q O c a = (src.view.loc (c : Thread nD τ) ↦{q} fs))
    (hpr : dmaPay Q O p r = (dst.view.loc (p : Thread nD τ) ↦{fullShare} fd'))
    (O' : CellTallies nD τ sig Unit) (W : Waits sig Unit) :
    iprop(cellInv ER (sched Q O) (K ((c : Thread nD τ), .dma a)) ((c : Thread nD τ), .dma a)
        ∗ cellInv ER (sched Q O) (K ((p : Thread nD τ), .dma r)) ((p : Thread nD τ), .dma r)
        ∗ (src.view.loc (c : Thread nD τ) ↦{q} fs) ∗ (dst.view.loc (p : Thread nD τ) ↦{fullShare} fd)
        ∗ owes (c : Thread nD τ) (O' + tallyAt ((p : Thread nD τ), .dma r) () N) W
        ∗ dutyTok ER ((c : Thread nD τ), .dma a) 0 true ∗ reached ER ((c : Thread nD τ), .dma a) 0
        ∗ dutyTok ER ((p : Thread nD τ), .dma r) 0 true ∗ reached ER ((p : Thread nD τ), .dma r) 0)
      ⊢ iprop(((cred (tallyAt ((c : Thread nD τ), .dma a) () N) ∗ owes (c : Thread nD τ) O' W)
            -∗ wp frame (wpE (defs₀ (F := F)) Variants.none c none) Set.univ (k ⟨⟩) Kt)
          -∗ wp frame (wpE (defs₀ (F := F)) Variants.none c none) Set.univ
            (.op (.enqueueDma src (.remote (d : Thread nD τ) dst (.dma a) hsc) (.dma r) hsrc hdst hsem) k) Kt) := by
  replace hd := hd.symm
  subst hd
  have h := Rounds.wp_send_pointsTo (defs := defs₀ (F := F)) Variants.none ER (sched Q O) (c : Thread nD τ) none (Q := Kt) (c' := (p : Thread nD τ))
      (src := src) (dst := dst) (sS := .dma a) (sem := .dma r) (hsc := hsc) (hsrc := hsrc) (hdst := hdst) (hsem := hsem) (k := k) (q := q) (fs := fs) (fd := fd)
      (κ₁ := K ((c : Thread nD τ), .dma a)) (κ₂ := K ((p : Thread nD τ), .dma r)) (r₁ := 0) (r₂ := 0) (d₁ := true) (d₂ := true)
      (by rw [duties_dma]; decide) (by rw [duties_dma]; decide) () () N hN ha hr (O₀ := O' + tallyAt ((p : Thread nD τ), .dma r) () N) O' rfl (W := W) (Es := Set.univ)
      (Γ := PendingWaitsCtx.empty) (by rw [hss]; exact Entails.of_eq hpa.symm) (by rw [hds, hland]; exact Entails.of_eq hpr.symm)
  rw [hss, hds] at h
  exact h

/-- A cell whose one round is over is closed: its counter is back at zero. -/
theorem shut (κ : ℕ) (g : GSem nD τ sig) :
    iprop(cellInv ER (sched Q O) κ g ∗ atPos ER g 1 ∅ 0) ⊢ (|={Set.univ}=> semVal g 0 : sProp 𝕄) :=
  Rounds.cell_close ER (sched Q O) (Set.mem_univ κ) id (duties_later Q O g)

/-- The two batch entries of a block of results side by side. -/
def glue {α : Type} (x y : S1x256x512.Idx → α) : S2x256x512.Idx → α :=
  fun i => (if (i 0).val = 0 then x else y) (fun | 0 => (0 : Fin 1) | 1 => i 1 | 2 => i 2)

/-- What two stores of the two batch entries leave of a block of results. -/
theorem read_two_slabs {κ : Kind} {sp : Space} (v : View sig κ sp S2x256x512 .f32) (f : v.ty.Contents (Elt F))
    (h0 : ∀ a, (![0, 0, 0] : Fin 3 → ℕ) a + S1x256x512.size a ≤ S2x256x512.size a)
    (h1 : ∀ a, (![1, 0, 0] : Fin 3 → ℕ) a + S1x256x512.size a ≤ S2x256x512.size a)
    (x y : S1x256x512.Idx → Elt F .f32) (L : List (View.Piece (Elt F) S2x256x512 .f32)) :
    v.read (Elt F) (v.writes (Elt F) f (⟨Rect.unit ![1, 0, 0] S1x256x512.size h1, y⟩ :: ⟨Rect.unit ![0, 0, 0] S1x256x512.size h0, x⟩ :: L))
      = glue x y := by
  funext i
  have hlt : (i 0).val < 2 := (i 0).isLt
  unfold glue
  by_cases h : (i 0).val = 0
  · rw [if_pos h, View.read_writes_cons_miss_of_axis v f _ _ i (0 : Fin 3) 1 1 rfl rfl rfl (Or.inl (by rw [h]; exact Nat.one_pos))]
    refine View.read_writes_cons_hit_of_coords v f (Rect.unit ![0, 0, 0] S1x256x512.size h0) x L _ i fun a => ?_
    match a with
    | 0 => exact h
    | 1 => exact (Nat.zero_add _).symm.trans (congrArg (0 + ·) (Nat.one_mul _).symm)
    | 2 => exact (Nat.zero_add _).symm.trans (congrArg (0 + ·) (Nat.one_mul _).symm)
  · rw [if_neg h]
    refine View.read_writes_cons_hit_of_coords v f (Rect.unit ![1, 0, 0] S1x256x512.size h1) y _ _ i fun a => ?_
    match a with
    | 0 => exact (by omega : (i 0).val = 1)
    | 1 => exact (Nat.zero_add _).symm.trans (congrArg (0 + ·) (Nat.one_mul _).symm)
    | 2 => exact (Nat.zero_add _).symm.trans (congrArg (0 + ·) (Nat.one_mul _).symm)

/-- The scratch buffers, at contents not named. -/
def scratch (c : Dev nD) : sProp 𝕄 :=
  iprop(ptAny (F := F) c cc0_scratch0 ∗ ptAny (F := F) c wqB ∗ ptAny (F := F) c woB ∗ ptAny (F := F) c wqL ∗ ptAny (F := F) c woL ∗ ptAny (F := F) c wqR
    ∗ ptAny (F := F) c woR ∗ ptAny (F := F) c wqO ∗ ptAny (F := F) c woO ∗ ptAny (F := F) c cc0_scratch9)

end Cert.Ring

end
-- ==== Proof.Body.lean ====
module

public import proofs.«01_k».proof.Proof.Steps
public import proofs.«01_k».proof.Proof.Gen.KernelIdeal.Points
public import proofs.«01_k».proof.Proof.Gen.KernelIdeal.Skeleton

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

attribute [local sl_rounds] duties_bar amount_bar expect_bar payload_bar_rt payload_bar_lf rt_lf lf_rt duties_send0 amount_send0 expect_send0 payload_send0 duties_send1 amount_send1 expect_send1 payload_send1 duties_send2 amount_send2 expect_send2 payload_send2 duties_send3 amount_send3 expect_send3 payload_send3 duties_send4 amount_send4 expect_send4 payload_send4 duties_send5 amount_send5 expect_send5 payload_send5 duties_recv0 amount_recv0 expect_recv0 payload_recv0 duties_recv1 amount_recv1 expect_recv1 payload_recv1 duties_recv2 amount_recv2 expect_recv2 payload_recv2 duties_recv3 amount_recv3 expect_recv3 payload_recv3 duties_recv4 amount_recv4 expect_recv4 payload_recv4 duties_recv5 amount_recv5 expect_recv5 payload_recv5

variable (Q : Dev nD → wqB.ty.Contents (Elt F)) (O : Dev nD → woB.ty.Contents (Elt F))

/-- What the body runs from: the protocol's resources, the staged blocks, the scratch buffers at contents not named, and
    what the device owes. -/
def bodyPre (K : GSem nD τ sig → ℕ) (c : Dev nD) (W : Waits sig Unit)
    (x0 : cc0_stg0_0.ty.Contents (Elt F)) (x1 : cc0_stg1_0.ty.Contents (Elt F)) (x2 : cc0_stg2_0.ty.Contents (Elt F))
    (x3 : cc0_stg3_0.ty.Contents (Elt F)) (x4 : cc0_stg4_0.ty.Contents (Elt F)) (x5 : cc0_stg5_0.ty.Contents (Elt F)) : sProp 𝕄 :=
  iprop(invs Q O K c ∗ sndInvs Q O K c ∗ peerInvs Q O K c ∗ knows (F := F) c ∗ ats (F := F) c ∗ toks (F := F) c ∗ creds (F := F) c ∗ levAts L lv
    ∗ (pt c cc0_stg0_0 x0 ∗ pt c cc0_stg1_0 x1 ∗ pt c cc0_stg2_0 x2 ∗ pt c cc0_stg3_0 x3 ∗ pt c cc0_stg4_0 x4 ∗ pt c cc0_stg5_0 x5)
    ∗ scratch (F := F) c ∗ owes (c : Thread nD τ) (O₀ c) W)

/-- What it ends with: the staged blocks as they were and the result's at `f`, the scratch buffers, every counter back at
    zero, nothing owed. -/
def bodyPost (c : Dev nD)
    (x0 : cc0_stg0_0.ty.Contents (Elt F)) (x1 : cc0_stg1_0.ty.Contents (Elt F)) (x2 : cc0_stg2_0.ty.Contents (Elt F))
    (x3 : cc0_stg3_0.ty.Contents (Elt F)) (x4 : cc0_stg4_0.ty.Contents (Elt F)) (f : cc0_stg5_0.ty.Contents (Elt F)) : sProp 𝕄 :=
  iprop((pt c cc0_stg0_0 x0 ∗ pt c cc0_stg1_0 x1 ∗ pt c cc0_stg2_0 x2 ∗ pt c cc0_stg3_0 x3 ∗ pt c cc0_stg4_0 x4 ∗ pt c cc0_stg5_0 f)
    ∗ scratch (F := F) c ∗ semVal (barCell c) 0
    ∗ (semVal (sendCell c 0) 0 ∗ semVal (sendCell c 1) 0 ∗ semVal (sendCell c 2) 0 ∗ semVal (sendCell c 3) 0 ∗ semVal (sendCell c 4) 0 ∗ semVal (sendCell c 5) 0
      ∗ semVal (recvCell c 0) 0 ∗ semVal (recvCell c 1) 0 ∗ semVal (recvCell c 2) 0 ∗ semVal (recvCell c 3) 0 ∗ semVal (recvCell c 4) 0 ∗ semVal (recvCell c 5) 0)
    ∗ ∃ W, owes (c : Thread nD τ) (0 : CellTallies nD τ sig Unit) W)

set_option maxHeartbeats 0 in
/-- The body's run on device `c`, with the contents it leaves in the result's block: they depend on the staged blocks
    of `c`, and through `Q` and `O` on every device's weights. -/
def bodyRun (c : Dev nD)
    (x0 : cc0_stg0_0.ty.Contents (Elt F)) (x1 : Dev nD → cc0_stg1_0.ty.Contents (Elt F)) (x2 : Dev nD → cc0_stg2_0.ty.Contents (Elt F))
    (x3 : cc0_stg3_0.ty.Contents (Elt F)) (x4 : cc0_stg4_0.ty.Contents (Elt F))
    (hQ : ∀ d, Q d = k0_pay2 (x1 d)) (hO : ∀ d, O d = k0_pay3 (x2 d)) :
    { f : cc0_stg5_0.ty.Contents (Elt F) // ∀ (K : GSem nD τ sig → ℕ) (W : Waits sig Unit) (x5 : cc0_stg5_0.ty.Contents (Elt F)) (Kt : PUnit → sProp 𝕄),
      iprop(bodyPre Q O K c W x0 (x1 c) (x2 c) x3 x4 x5 ∗ (bodyPost c x0 (x1 c) (x2 c) x3 x4 f -∗ Kt ⟨⟩))
        ⊢ wp frame (wpE (defs₀ (F := F)) Variants.none c none) Set.univ (bodyAt0 (F := F) t0_0) Kt } := by
  refine ⟨glue ?_ ?_, fun K W x5 Kt => ?run⟩
  case run =>
  unfold bodyPre scratch invs knows ats toks creds
  iintro ⟨⟨⟨#HIb, #HIbL, #HIbR, #HIr0, #HIr1, #HIr2, #HIr3, #HIr4, #HIr5⟩, #HIS, #HIP, ⟨#HcrL, #HcrR, #Hrs0, #Hrs1, #Hrs2, #Hrs3, #Hrs4, #Hrs5, #Hrr0, #Hrr1, #Hrr2, #Hrr3, #Hrr4, #Hrr5⟩, ⟨HaB, HaS0, HaS1, HaS2, HaS3, HaS4, HaS5, HaR0, HaR1, HaR2, HaR3, HaR4, HaR5⟩, ⟨HtL, HtR, HtS0, HtS1, HtS2, HtS3, HtS4, HtS5, HtP0, HtP1, HtP2, HtP3, HtP4, HtP5⟩, ⟨HcB, HcR0, HcR1, HcR2, HcR3, HcR4, HcR5⟩, #Hlev, ⟨H0, H1, H2, H3, H4, H5⟩,
    ⟨⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩, HO⟩, Hk⟩
  unfold pt ptq
  have hd1 := dev1_eq c
  have hd2 := dev2_eq c
  have hd3 := dev3_eq c
  have hd4 := dev4_eq c
  have hd5 := dev5_eq c
  have hd6 := dev6_eq c
  have hd7 := dev7_eq c
  have hd8 := dev8_eq c
  have hm_bar := mayWait_bar (F := F) c
  have hm_recv0 := mayWait_recv0 (F := F) c
  have hm_recv1 := mayWait_recv1 (F := F) c
  have hm_recv2 := mayWait_recv2 (F := F) c
  have hm_recv3 := mayWait_recv3 (F := F) c
  set_option sl_exec.stepHeartbeats 20000 in sl_exec_parts
  iapply (Rounds.wp_signal (defs := defs₀ (F := F)) Variants.none ER (sched Q O) (c : Thread nD τ) none (dst := (lf c : Thread nD τ)) (sem := barrier0) (r := 0) (d := true)
      (κ := K (barCell (lf c))) (by rw [duties_bar]; decide) (amount_bar Q O (lf c) 0 true) () (O₀ := O₀ c) (DB c) rfl (W := W)) $$ [HO HtL H9 H10 H13]
  · isplitr; · iexact HIbL
    isplitl [HO]; · iexact HO
    isplitl [HtL]; · iexact HtL
    isplitl [H9 H10 H13]
    · rw [show (sched Q O).payload (barCell (lf c)) 0 true = barFromRt (lf c) from rfl]; unfold barFromRt ptAny pt ptq; rw [rt_lf]
      isplitl [H9]; · iexists f9; iexact H9
      isplitl [H10]; · iexists f10; iexact H10
      isplitl [H13]; · iexists f13; iexact H13
      isplitr; · iexact Hrr0
      isplitr; · iexact Hrr1
      iexact Hrr4
    · iexact HcrL
  iintro HO
  set_option sl_exec.stepHeartbeats 20000 in sl_exec_parts
  iapply (Rounds.wp_signal (defs := defs₀ (F := F)) Variants.none ER (sched Q O) (c : Thread nD τ) none (dst := (rt c : Thread nD τ)) (sem := barrier0) (r := 0) (d := false)
      (κ := K (barCell (rt c))) (by rw [duties_bar]; decide) (amount_bar Q O (rt c) 0 false) () (O₀ := DB c) (D0 c) rfl (W := W)) $$ [HO HtR H11 H12 H14]
  · isplitr; · iexact HIbR
    isplitl [HO]; · iexact HO
    isplitl [HtR]; · iexact HtR
    isplitl [H11 H12 H14]
    · rw [show (sched Q O).payload (barCell (rt c)) 0 false = barFromLf (rt c) from rfl]; unfold barFromLf ptAny pt ptq; rw [lf_rt]
      isplitl [H11]; · iexists f11; iexact H11
      isplitl [H12]; · iexists f12; iexact H12
      isplitl [H14]; · iexists f14; iexact H14
      isplitr; · iexact Hrr2
      isplitr; · iexact Hrr3
      iexact Hrr5
    · iexact HcrR
  iintro HO
  set_option sl_exec.stepHeartbeats 20000 in sl_exec_parts
  have e7 : (Memref.whole wqB).view.writes (Elt F) f7 (bodyRun.sl.H7_1 c x1) = Q c :=
    (whole_store wqB f7 _ _ _).trans ((congrArg k0_pay2 (View.readAt_full _ _ _)).trans (hQ c).symm)
  have e8 : (Memref.whole woB).view.writes (Elt F) f8 [⟨Rect.unit ![0, 0] S256x512.size inb_S256x512_S256x512_0_0, bodyRun.sl.v34 c x2⟩] = O c :=
    (whole_store woB f8 _ _ _).trans ((congrArg k0_pay3 (View.readAt_full _ _ _)).trans (hO c).symm)
  rw [e7, e8]
  ihave H7' := (split3 c wqB (Q c)).1 $$ H7
  ihave H8' := (split3 c woB (O c)).1 $$ H8
  icases H7' with ⟨H7A, H7B, H7C⟩
  icases H8' with ⟨H8A, H8B, H8C⟩
  ihave HaB' := (bar_open (F := F) c) $$ HaB_pay1
  unfold barFromRt barFromLf ptAny pt ptq
  icases HaB' with ⟨⟨⟨%g9, G9⟩, ⟨%g10, G10⟩, ⟨%g13, G13⟩, #Hq0, #Hq1, #Hq4⟩, ⟨%g11, G11⟩, ⟨%g12, G12⟩, ⟨%g14, G14⟩, #Hq2, #Hq3, #Hq5⟩
  iapply (send_step Q O K c (rt c) hd3 (Memref.whole wqB) (Memref.whole wqL) (sS 0) (sR 0) qA (Q c) g9 (Q (lf (rt c))) nQ (View.set_whole _) (View.set_whole _)
      ((View.write_whole_univ _ _ _).trans (congrArg Q (lf_rt c).symm)) rfl rfl rfl rfl rfl (D1 c) (insert (SemLoc.reg barrier0, ()) W)) $$ [H7A G9 HO HtS0 HtP0]
  · isplitr; · iapply (sndInvs_0 Q O K c) $$ HIS
    isplitr; · iapply (peerInvs_0 Q O K c) $$ HIP
    isplitl [H7A]; · iexact H7A
    isplitl [G9]; · iexact G9
    isplitl [HO]; · iexact HO
    isplitl [HtS0]; · iexact HtS0
    isplitr; · iexact Hrs0
    isplitl [HtP0]; · iexact HtP0
    iexact Hq0
  iintro ⟨HcS0, HO⟩
  set_option sl_exec.stepHeartbeats 20000 in sl_exec
  iapply (send_step Q O K c (rt c) hd4 (Memref.whole woB) (Memref.whole woL) (sS 1) (sR 1) qA (O c) g10 (O (lf (rt c))) nO (View.set_whole _) (View.set_whole _)
      ((View.write_whole_univ _ _ _).trans (congrArg O (lf_rt c).symm)) rfl rfl rfl rfl rfl (D2 c) (insert (SemLoc.reg barrier0, ()) W)) $$ [H8A G10 HO HtS1 HtP1]
  · isplitr; · iapply (sndInvs_1 Q O K c) $$ HIS
    isplitr; · iapply (peerInvs_1 Q O K c) $$ HIP
    isplitl [H8A]; · iexact H8A
    isplitl [G10]; · iexact G10
    isplitl [HO]; · iexact HO
    isplitl [HtS1]; · iexact HtS1
    isplitr; · iexact Hrs1
    isplitl [HtP1]; · iexact HtP1
    iexact Hq1
  iintro ⟨HcS1, HO⟩
  set_option sl_exec.stepHeartbeats 20000 in sl_exec
  iapply (send_step Q O K c (lf c) hd5 (Memref.whole wqB) (Memref.whole wqR) (sS 2) (sR 2) qB (Q c) g11 (Q (rt (lf c))) nQ (View.set_whole _) (View.set_whole _)
      ((View.write_whole_univ _ _ _).trans (congrArg Q (rt_lf c).symm)) rfl rfl rfl rfl rfl (D3 c) (insert (SemLoc.reg barrier0, ()) W)) $$ [H7B G11 HO HtS2 HtP2]
  · isplitr; · iapply (sndInvs_2 Q O K c) $$ HIS
    isplitr; · iapply (peerInvs_2 Q O K c) $$ HIP
    isplitl [H7B]; · iexact H7B
    isplitl [G11]; · iexact G11
    isplitl [HO]; · iexact HO
    isplitl [HtS2]; · iexact HtS2
    isplitr; · iexact Hrs2
    isplitl [HtP2]; · iexact HtP2
    iexact Hq2
  iintro ⟨HcS2, HO⟩
  set_option sl_exec.stepHeartbeats 20000 in sl_exec
  iapply (send_step Q O K c (lf c) hd6 (Memref.whole woB) (Memref.whole woR) (sS 3) (sR 3) qB (O c) g12 (O (rt (lf c))) nO (View.set_whole _) (View.set_whole _)
      ((View.write_whole_univ _ _ _).trans (congrArg O (rt_lf c).symm)) rfl rfl rfl rfl rfl (D4 c) (insert (SemLoc.reg barrier0, ()) W)) $$ [H8B G12 HO HtS3 HtP3]
  · isplitr; · iapply (sndInvs_3 Q O K c) $$ HIS
    isplitr; · iapply (peerInvs_3 Q O K c) $$ HIP
    isplitl [H8B]; · iexact H8B
    isplitl [G12]; · iexact G12
    isplitl [HO]; · iexact HO
    isplitl [HtS3]; · iexact HtS3
    isplitr; · iexact Hrs3
    isplitl [HtP3]; · iexact HtP3
    iexact Hq3
  iintro ⟨HcS3, HO⟩
  set_option sl_exec.stepHeartbeats 20000 in sl_exec_parts
  ihave HL' := (pointsTo_share (PosShare.mem_left_op_right fullShare)).1 $$ HaR0_pay1
  icases HL' with ⟨H9A, H9B⟩
  iapply (send_step Q O K c (rt c) hd7 (Memref.whole wqL) (Memref.whole wqO) (sS 4) (sR 4) qA (Q (lf c)) g13 (Q (lf (lf (rt c)))) nQ (View.set_whole _) (View.set_whole _)
      ((View.write_whole_univ _ _ _).trans (congrArg (fun d => Q (lf d)) (lf_rt c).symm)) rfl rfl rfl rfl rfl (D5 c) _) $$ [H9A G13 HO HtS4 HtP4]
  · isplitr; · iapply (sndInvs_4 Q O K c) $$ HIS
    isplitr; · iapply (peerInvs_4 Q O K c) $$ HIP
    isplitl [H9A]; · iexact H9A
    isplitl [G13]; · iexact G13
    isplitl [HO]; · iexact HO
    isplitl [HtS4]; · iexact HtS4
    isplitr; · iexact Hrs4
    isplitl [HtP4]; · iexact HtP4
    iexact Hq4
  iintro ⟨HcS4, HO⟩

  set_option sl_exec.stepHeartbeats 20000 in sl_exec_parts
  ihave HL' := (pointsTo_share (PosShare.mem_left_op_right fullShare)).1 $$ HaR3_pay1
  icases HL' with ⟨H12A, H12B⟩
  rw [show D5 c = 0 + tallyAt (recvCell (lf c) 5) () nO from (zero_add _).symm]
  iapply (send_step Q O K c (lf c) hd8 (Memref.whole woR) (Memref.whole woO) (sS 5) (sR 5) qA (O (rt c)) g14 (O (rt (rt (lf c)))) nO (View.set_whole _) (View.set_whole _)
      ((View.write_whole_univ _ _ _).trans (congrArg (fun d => O (rt d)) (rt_lf c).symm)) rfl rfl rfl rfl rfl 0 _) $$ [H12A G14 HO HtS5 HtP5]
  · isplitr; · iapply (sndInvs_5 Q O K c) $$ HIS
    isplitr; · iapply (peerInvs_5 Q O K c) $$ HIP
    isplitl [H12A]; · iexact H12A
    isplitl [G14]; · iexact G14
    isplitl [HO]; · iexact HO
    isplitl [HtS5]; · iexact HtS5
    isplitr; · iexact Hrs5
    isplitl [HtP5]; · iexact HtP5
    iexact Hq5
  iintro ⟨HcS5, HO⟩

  unfold sndInvs
  icases HIS with ⟨#HIs0, #HIs1, #HIs2, #HIs3, #HIs4, #HIs5⟩
  set_option sl_exec.stepHeartbeats 20000 in sl_exec_parts
  rw [show (Memref.whole cc0_stg5_0).view.writes (Elt F) x5
      (⟨Rect.unit ![1, 0, 0] S1x256x512.size inb_S2x256x512_S1x256x512_1_0_0, bodyRun.sl.v795 Q O c x0 x3 x4⟩ :: bodyRun.sl.H5_7 Q O c x0 x3 x4)
        = glue (bodyRun.sl.v787 Q O c x0 x3 x4) (bodyRun.sl.v795 Q O c x0 x3 x4)
      from read_two_slabs (Memref.whole cc0_stg5_0).view x5 _ _ _ _ _]
  rw [wp_ret]
  imod (shut Q O (K (barCell c)) (barCell c)) $$ [HaB] with HZB
  · isplitr; · iexact HIb
    iexact HaB
  imod (shut Q O (K (sendCell c 0)) (sendCell c 0)) $$ [HaS0] with HZS0
  · isplitr; · iexact HIs0
    iexact HaS0
  imod (shut Q O (K (sendCell c 1)) (sendCell c 1)) $$ [HaS1] with HZS1
  · isplitr; · iexact HIs1
    iexact HaS1
  imod (shut Q O (K (sendCell c 2)) (sendCell c 2)) $$ [HaS2] with HZS2
  · isplitr; · iexact HIs2
    iexact HaS2
  imod (shut Q O (K (sendCell c 3)) (sendCell c 3)) $$ [HaS3] with HZS3
  · isplitr; · iexact HIs3
    iexact HaS3
  imod (shut Q O (K (sendCell c 4)) (sendCell c 4)) $$ [HaS4] with HZS4
  · isplitr; · iexact HIs4
    iexact HaS4
  imod (shut Q O (K (sendCell c 5)) (sendCell c 5)) $$ [HaS5] with HZS5
  · isplitr; · iexact HIs5
    iexact HaS5
  imod (shut Q O (K (recvCell c 0)) (recvCell c 0)) $$ [HaR0] with HZR0
  · isplitr; · iexact HIr0
    iexact HaR0
  imod (shut Q O (K (recvCell c 1)) (recvCell c 1)) $$ [HaR1] with HZR1
  · isplitr; · iexact HIr1
    iexact HaR1
  imod (shut Q O (K (recvCell c 2)) (recvCell c 2)) $$ [HaR2] with HZR2
  · isplitr; · iexact HIr2
    iexact HaR2
  imod (shut Q O (K (recvCell c 3)) (recvCell c 3)) $$ [HaR3] with HZR3
  · isplitr; · iexact HIr3
    iexact HaR3
  imod (shut Q O (K (recvCell c 4)) (recvCell c 4)) $$ [HaR4] with HZR4
  · isplitr; · iexact HIr4
    iexact HaR4
  imod (shut Q O (K (recvCell c 5)) (recvCell c 5)) $$ [HaR5] with HZR5
  · isplitr; · iexact HIr5
    iexact HaR5
  imodintro
  iapply Hk
  unfold bodyPost scratch ptAny pt ptq
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6 H15 HaS0_pay1 HaS2_pay1 H7C HaS1_pay1 HaS3_pay1 H8C HaS4_pay1 H9B HaR1_pay1 HaR2_pay1 HaS5_pay1 H12B HaR4_pay1 HaR5_pay1]
  · isplitl [H6]; · iexists _; iexact H6
    isplitl [HaS0_pay1 HaS2_pay1 H7C]
    · iexists (Q c); iapply (split3 c wqB (Q c)).2
      isplitl [HaS0_pay1]; · iexact HaS0_pay1
      isplitl [HaS2_pay1]; · iexact HaS2_pay1
      iexact H7C
    isplitl [HaS1_pay1 HaS3_pay1 H8C]
    · iexists (O c); iapply (split3 c woB (O c)).2
      isplitl [HaS1_pay1]; · iexact HaS1_pay1
      isplitl [HaS3_pay1]; · iexact HaS3_pay1
      iexact H8C
    isplitl [HaS4_pay1 H9B]
    · iexists (Q (lf c)); iapply (pointsTo_share (PosShare.mem_left_op_right fullShare)).2
      isplitl [HaS4_pay1]; · iexact HaS4_pay1
      iexact H9B
    isplitl [HaR1_pay1]; · iexists _; iexact HaR1_pay1
    isplitl [HaR2_pay1]; · iexists _; iexact HaR2_pay1
    isplitl [HaS5_pay1 H12B]
    · iexists (O (rt c)); iapply (pointsTo_share (PosShare.mem_left_op_right fullShare)).2
      isplitl [HaS5_pay1]; · iexact HaS5_pay1
      iexact H12B
    isplitl [HaR4_pay1]; · iexists _; iexact HaR4_pay1
    isplitl [HaR5_pay1]; · iexists _; iexact HaR5_pay1
    iexists _; iexact H15
  isplitl [HZB]; · iexact HZB
  isplitr [HO]
  · isplitl [HZS0]; · iexact HZS0
    isplitl [HZS1]; · iexact HZS1
    isplitl [HZS2]; · iexact HZS2
    isplitl [HZS3]; · iexact HZS3
    isplitl [HZS4]; · iexact HZS4
    isplitl [HZS5]; · iexact HZS5
    isplitl [HZR0]; · iexact HZR0
    isplitl [HZR1]; · iexact HZR1
    isplitl [HZR2]; · iexact HZR2
    isplitl [HZR3]; · iexact HZR3
    isplitl [HZR4]; · iexact HZR4
    iexact HZR5
  iexists _; iexact HO

end Cert.Ring
end
-- ==== Proof.Region.lean ====
module

-- The region: what each window stages, the proof data of its one point, its cells opened on entry, and the record that the launch takes.

public import proofs.«01_k».proof.Proof.Body
public import proofs.«01_k».proof.Proof.Gen.KernelIdeal.Regions
public import Idealize.ShloMosaic.Lib.Pipeline.RegionTalk
public import Idealize.ShloMosaic.Harness.Basic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-! ## What the windows stage -/

/-- What the array behind a window holds when the region starts, read through the window's one block. -/
abbrev blk (c : Dev nD) (W : Pipeline.Window sig grid0) : (W.xblock (grid0.coords t0_0)).Idx → Elt F W.elt :=
  (W.blk t0_0).view.read (Elt F) (V1 m c (Proc.devRef .tc W.arr.view.ref))

/-- The staged rows of `x`, query weights, output weights, keys and values of device `c`. -/
def stX (c : Dev nD) : cc0_stg0_0.ty.Contents (Elt F) := blk m c (cfg0.win 0)
def stWq (c : Dev nD) : cc0_stg1_0.ty.Contents (Elt F) := blk m c (cfg0.win 1)
def stWo (c : Dev nD) : cc0_stg2_0.ty.Contents (Elt F) := blk m c (cfg0.win 2)
def stK (c : Dev nD) : cc0_stg3_0.ty.Contents (Elt F) := blk m c (cfg0.win 3)
def stV (c : Dev nD) : cc0_stg4_0.ty.Contents (Elt F) := blk m c (cfg0.win 4)

/-- The weights that device `d` sends: scaled query weights and output weights, both in the narrow format. -/
def sentQ (d : Dev nD) : wqB.ty.Contents (Elt F) := k0_pay2 (stWq m d)
def sentO (d : Dev nD) : woB.ty.Contents (Elt F) := k0_pay3 (stWo m d)

/-- The body's run at the staged blocks. -/
abbrev run (c : Dev nD) := bodyRun (F := F) (sentQ m) (sentO m) c (stX m c) (stWq m) (stWo m) (stK m c) (stV m c) (fun _ => rfl) (fun _ => rfl)
/-- What the body leaves in the result's block. -/
def left (c : Dev nD) : cc0_stg5_0.ty.Contents (Elt F) := (run m c).1

/-! ## The cells of the protocol that the region owns -/

def osem : Fin 12 → SemLoc sig := fun
  | 0 => .dma (sS 0) | 1 => .dma (sS 1) | 2 => .dma (sS 2) | 3 => .dma (sS 3) | 4 => .dma (sS 4) | 5 => .dma (sS 5) | 6 => .dma (sR 0) | 7 => .dma (sR 1) | 8 => .dma (sR 2) | 9 => .dma (sR 3) | 10 => .dma (sR 4) | 11 => .dma (sR 5)

theorem bigSep_12 {M : Type} [URA M] (Φ : Fin 12 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

theorem osem_facts : Pipeline.OwnSemFacts spec0 osem := by decide

/-- A resource per such cell of device `c`, one by one. -/
theorem bigSep_cells {M : Type} [URA M] (Φ : GSem nD τ sig → sProp M) (c : Dev nD) :
    bigSep Finset.univ (fun k : Fin 12 => Φ ((c : Thread nD τ), osem k))
      = iprop(Φ (sendCell c 0) ∗ Φ (sendCell c 1) ∗ Φ (sendCell c 2) ∗ Φ (sendCell c 3) ∗ Φ (sendCell c 4) ∗ Φ (sendCell c 5) ∗ Φ (recvCell c 0) ∗ Φ (recvCell c 1) ∗ Φ (recvCell c 2) ∗ Φ (recvCell c 3) ∗ Φ (recvCell c 4) ∗ Φ (recvCell c 5)) :=
  bigSep_12 _

/-! ## The states between launch and region, in the region, after it -/

/-- The protocol's resources from launch: the cells not yet opened, -/
def ghost (K : GSem nD τ sig → ℕ) (c : Dev nD) : sProp 𝕄 :=
  iprop(invs (sentQ m) (sentO m) K c ∗ sndInvs (sentQ m) (sentO m) K c ∗ peerInvs (sentQ m) (sentO m) K c
    ∗ reached ER (barCell (lf c)) 0 ∗ reached ER (barCell (rt c)) 0 ∗ atPos ER (barCell c) 0 ∅ 0
    ∗ (bigSep Finset.univ fun k : Fin 12 => openTok ER ((c : Thread nD τ), osem k)) ∗ toks (F := F) c)
/-- and opened. -/
def opened (K : GSem nD τ sig → ℕ) (c : Dev nD) : sProp 𝕄 :=
  iprop(invs (sentQ m) (sentO m) K c ∗ sndInvs (sentQ m) (sentO m) K c ∗ peerInvs (sentQ m) (sentO m) K c
    ∗ knows (F := F) c ∗ ats (F := F) c ∗ toks (F := F) c)

/-- What the region takes beside buffers, what enters its invariant, what it leaves. -/
def Tk (c : Dev nD) : sProp 𝕄 := iprop((∃ K, ghost m K c) ∗ creds (F := F) c)
def Xk (c : Dev nD) : sProp 𝕄 := iprop((∃ K, opened m K c) ∗ creds (F := F) c ∗ levAts L lv)
def Yk (c : Dev nD) : sProp 𝕄 := semVal (barCell c) 0

/-- Every counter of the region's cells at zero. -/
def zeros (c : Dev nD) : sProp 𝕄 :=
  iprop(semVal (sendCell c 0) 0 ∗ semVal (sendCell c 1) 0 ∗ semVal (sendCell c 2) 0 ∗ semVal (sendCell c 3) 0 ∗ semVal (sendCell c 4) 0 ∗ semVal (sendCell c 5) 0 ∗ semVal (recvCell c 0) 0 ∗ semVal (recvCell c 1) 0 ∗ semVal (recvCell c 2) 0 ∗ semVal (recvCell c 3) 0 ∗ semVal (recvCell c 4) 0 ∗ semVal (recvCell c 5) 0)

theorem ownSems_eq (c : Dev nD) : (Pipeline.ownSems0 osem c : sProp 𝕄) = zeros (F := F) c :=
  bigSep_cells (fun g => (semVal g 0 : sProp 𝕄)) c

/-! ## The proof data -/

def dat (c : Dev nD) : Dat τ (Elt F) Unit ℕ UU ℕ cfg0 c where
  A w := V1 m c (Proc.devRef .tc (cfg0.win w).arr.view.ref)
  after w _ := match w with
    | ⟨0, _⟩ => stX m c
    | ⟨1, _⟩ => stWq m c
    | ⟨2, _⟩ => stWo m c
    | ⟨3, _⟩ => stK m c
    | ⟨4, _⟩ => stV m c
    | ⟨5, _⟩ => left m c
  Φ t := if t.val = 0 then iprop(Xk m c ∗ scratch (F := F) c ∗ ∃ r, prngReg c r)
    else iprop(Yk (F := F) c ∗ zeros (F := F) c ∗ scratch (F := F) c ∗ ∃ r, prngReg c r)
  q _ := fullShare
  owed t := if t.val = 0 then O₀ c else 0

def pdats : (p : Fin 1) → (c : Dev nD) → Dat τ (Elt F) Unit ℕ UU ℕ (cfgs p) c
  | 0 => dat m

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (dat m c).owed 0 = O₀ c := by
  show (if (0 : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

theorem share_eq (c : Dev nD) (w : Fin cfg0.W) : (dat m c).share w = fullShare := by
  unfold Dat.share; split <;> rfl

theorem before_x (c : Dev nD) (d) : (dat m c).before 0 t0_0 d = stX m c := by
  unfold Dat.before; rw [if_pos (fetch0_0 t0_0)]; rfl
theorem before_wq (c : Dev nD) (d) : (dat m c).before 1 t0_0 d = stWq m c := by
  unfold Dat.before; rw [if_pos (fetch0_1 t0_0)]; rfl
theorem before_wo (c : Dev nD) (d) : (dat m c).before 2 t0_0 d = stWo m c := by
  unfold Dat.before; rw [if_pos (fetch0_2 t0_0)]; rfl
theorem before_k (c : Dev nD) (d) : (dat m c).before 3 t0_0 d = stK m c := by
  unfold Dat.before; rw [if_pos (fetch0_3 t0_0)]; rfl
theorem before_v (c : Dev nD) (d) : (dat m c).before 4 t0_0 d = stV m c := by
  unfold Dat.before; rw [if_pos (fetch0_4 t0_0)]; rfl

theorem owesAt_intro (c : Dev nD) (t : Fin (cfg0.N + 1)) (X : CellTallies nD τ sig Unit) (h : (dat m c).owed t = X) (W : Waits sig Unit) :
    (owes (c : Thread nD τ) X W : sProp 𝕄) ⊢ ((dat m c).owesAt () t : sProp 𝕄) := by
  unfold Dat.owesAt Pipeline.owesWithin Dat.bound; rw [h]
  iintro HO; iexists W; isplitr; · ipureintro; exact fun _ _ => Or.inl trivial
  iexact HO
theorem owesAt_elim (c : Dev nD) (t : Fin (cfg0.N + 1)) (X : CellTallies nD τ sig Unit) (h : (dat m c).owed t = X) :
    ((dat m c).owesAt () t : sProp 𝕄) ⊢ iprop(∃ W, owes (c : Thread nD τ) X W) := by
  unfold Dat.owesAt Pipeline.owesWithin; rw [h]
  iintro ⟨%W, -, HO⟩; iexists W; iexact HO

set_option maxHeartbeats 1000000 in
/-- The obligation of the one point: `bodyRun` between the two states of the invariant. -/
theorem body (c : Dev nD) : BodyObligation (dat m c) (defs₀ (F := F)) Variants.none () Set.univ := fun t => by
  obtain rfl := fin_N0 t
  rw [bigSep_W0, bigSep_W0]
  simp only [owns_whole_eq]
  rw [show (dat m c).Φ t0_0.castSucc = iprop(Xk m c ∗ scratch (F := F) c ∗ ∃ r, prngReg c r) from rfl,
    show (dat m c).Φ t0_0.succ = iprop(Yk (F := F) c ∗ zeros (F := F) c ∗ scratch (F := F) c ∗ ∃ r, prngReg c r) from rfl]
  unfold Xk opened
  iintro ⟨⟨⟨⟨%K, HI, HS, HP, Hk, Ha, Ht⟩, Hc, Hlev⟩, Hsc, Hreg⟩, HO,
    ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before_x] at hf0; rw [before_wq] at hf1; rw [before_wo] at hf2; rw [before_k] at hf3; rw [before_v] at hf4
  subst hf0 hf1 hf2 hf3 hf4
  ihave HO' := (owesAt_elim m c _ (O₀ c) (owed_first m c)) $$ HO
  icases HO' with ⟨%W, HO⟩
  iapply ((run m c).2 K W f5 _)
  isplitr [Hreg]
  · unfold bodyPre
    isplitl [HI]; · iexact HI
    isplitl [HS]; · iexact HS
    isplitl [HP]; · iexact HP
    isplitl [Hk]; · iexact Hk
    isplitl [Ha]; · iexact Ha
    isplitl [Ht]; · iexact Ht
    isplitl [Hc]; · iexact Hc
    isplitl [Hlev]; · iexact Hlev
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [Hsc]; · iexact Hsc
    iexact HO
  unfold bodyPost
  iintro ⟨⟨H0, H1, H2, H3, H4, H5⟩, Hsc, Hb, Hz, ⟨%W', HO⟩⟩
  isplitr [HO H0 H1 H2 H3 H4 H5]
  · isplitl [Hb]; · unfold Yk; iexact Hb
    isplitl [Hz]; · unfold zeros; iexact Hz
    isplitl [Hsc]; · iexact Hsc
    iexact Hreg
  isplitl [HO]; · iapply (owesAt_intro m c t0_0.succ 0 (owed_last m c) W'); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-! ## Entry and exit -/

theorem cells_invs (K : GSem nD τ sig → ℕ) (c : Dev nD) : iprop(invs (sentQ m) (sentO m) K c ∗ sndInvs (sentQ m) (sentO m) K c)
    ⊢ bigSep Finset.univ fun k : Fin 12 => (cellInv ER (sched (sentQ m) (sentO m)) (K ((c : Thread nD τ), osem k)) ((c : Thread nD τ), osem k) : sProp 𝕄) := by
  rw [bigSep_cells (fun g => (cellInv ER (sched (sentQ m) (sentO m)) (K g) g : sProp 𝕄)) c]
  unfold invs sndInvs
  iintro ⟨⟨#B0, #B1, #B2, #R0, #R1, #R2, #R3, #R4, #R5⟩, #S0, #S1, #S2, #S3, #S4, #S5⟩
  isplitr; · iexact S0
  isplitr; · iexact S1
  isplitr; · iexact S2
  isplitr; · iexact S3
  isplitr; · iexact S4
  isplitr; · iexact S5
  isplitr; · iexact R0
  isplitr; · iexact R1
  isplitr; · iexact R2
  isplitr; · iexact R3
  isplitr; · iexact R4
  iexact R5

/-- On entry every cell is opened from its counter at zero. -/
theorem enter (c : Dev nD) : iprop(Tk m c ∗ Pipeline.ownSems0 osem c ∗ levAts L lv) ⊢ (|={Set.univ}=> Xk m c : sProp 𝕄) := by
  unfold Tk Xk ghost opened
  iintro ⟨⟨⟨%K, #HI, #HS, #HP, #HrL, #HrR, HaB, Ho, Ht⟩, Hc⟩, Hz, #Hlev⟩
  imod (Rounds.cells_open ER (sched (sentQ m) (sentO m)) Finset.univ (fun k : Fin 12 => ((c : Thread nD τ), osem k))
    (fun k => K ((c : Thread nD τ), osem k)) (Es := Set.univ) (fun _ _ => Set.mem_univ _)) $$ [Ho Hz] with H
  · isplitl [Ho]
    · iapply (Entails.of_eq (bigSep_sep' _ _ _).symm)
      isplitr
      · iapply (cells_invs m K c)
        isplitr; · iexact HI
        iexact HS
      iexact Ho
    unfold Pipeline.ownSems0
    iexact Hz
  ihave H2 := (Entails.of_eq (bigSep_sep' _ _ _)) $$ H
  icases H2 with ⟨Hat, Hre⟩
  ihave Hat' := (Entails.of_eq (bigSep_cells (fun g => (atPos ER g 0 ∅ 0 : sProp 𝕄)) c)) $$ Hat
  ihave Hre' := (Entails.of_eq (bigSep_cells (fun g => (reached ER g 0 : sProp 𝕄)) c)) $$ Hre
  imodintro
  isplitr [Hc]
  · iexists K
    isplitr; · iexact HI
    isplitr; · iexact HS
    isplitr; · iexact HP
    isplitl [Hre']
    · unfold knows
      isplitr; · iexact HrL
      isplitr; · iexact HrR
      iexact Hre'
    isplitl [HaB Hat']
    · unfold ats
      isplitl [HaB]; · iexact HaB
      iexact Hat'
    iexact Ht
  isplitl [Hc]; · iexact Hc
  iexact Hlev

theorem scopedRest_eq (c : Dev nD) : (Pipeline.scopedRest (Ix := Unit) (Name := ℕ) (U := UU) (Lvl := ℕ) (Val := Elt F) spec0 c : sProp 𝕄) = scratch (F := F) c :=
  scopedRest0_eq c

theorem held_none (c : Dev nD) (W : Valuation τ sig (Elt F)) : (StableHlo.held (c.tc : Thread nD τ) ∅ W : sProp 𝕄) = BI.emp := by
  unfold StableHlo.held; exact BI.bigSep_empty

theorem enter_inv (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = iprop(Xk m c ∗ scratch (F := F) c ∗ ∃ r, prngReg c r) from rfl,
    show (Pipeline.scopedRest (Pipeline.pin (pcfgs (F := F)) adm 0).spec c : sProp 𝕄) = scratch (F := F) c from scopedRest_eq c]
  iintro ⟨Hs, Hp, -, HX⟩
  isplitl [HX]; · iexact HX
  isplitl [Hs] <;> iassumption

theorem leave_inv (W : Valuation τ sig (Elt F)) (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ W ∗ Pipeline.ownSems0 osem c ∗ Yk (F := F) c) := by
  rw [show (pdats m 0 c).Φ (Fin.last _) = iprop(Yk (F := F) c ∗ zeros (F := F) c ∗ scratch (F := F) c ∗ ∃ r, prngReg c r) from rfl,
    show (Pipeline.scopedRest (Pipeline.pin (pcfgs (F := F)) adm 0).spec c : sProp 𝕄) = scratch (F := F) c from scopedRest_eq c,
    ownSems_eq, held_none]
  iintro ⟨HY, Hz, Hs, Hp⟩
  isplitl [Hs]; · iexact Hs
  isplitl [Hp]; · iexact Hp
  isplitr; · iempintro
  isplitl [Hz] <;> iassumption

theorem Above.O₀ (c : Dev nD) : Above 0 (O₀ c) := by
  unfold Cert.Ring.O₀
  repeat' (first | refine Above.add ?_ ?_ | exact Above.tally _ _ _ _ (by decide))

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then Cert.Ring.O₀ c else 0 := rfl
  rw [e] at h
  split at h
  · exact Above.O₀ c g i h
  · exact absurd h (Nat.lt_irrefl 0)

theorem stage_lv : ∀ (w : Fin 6) (s : Fin (spec0 w).nbuf), slv (.dma ((spec0 w).sem s)) ≤ 0 := by decide

/-- What the result's array holds after the region, and the valuation there. -/
def outs : Outs (F := F) := fun _ r c => if h : r = main_v19 then h ▸ (dat m c).arrAt 5 cfg0.N else m ((c : Thread nD τ).loc r)
abbrev Vend (c : Dev nD) : Valuation τ sig (Elt F) := V2 m (outs m) c

theorem Vend_out (c : Dev nD) : Vend m c main_v19 = (dat m c).arrAt 5 cfg0.N := by
  unfold Vend V2; rw [Function.update_self]; rfl

abbrev others : Finset (DevRef τ sig) := Pipeline.ucRefs τ sig \ Pipeline.arrRefs (τ := τ) spec0

theorem end_others (c : Dev nD) : ∀ b ∈ others \ ∅, Vend m c b = V1 m c b := fun b hb => by
  refine Function.update_of_ne (fun h => ?_) _ _
  subst h
  exact absurd hb (by decide)

theorem end_arr (c : Dev nD) : ∀ w : Fin 6, (dat m c).arrAt w cfg0.N = Vend m c (Proc.devRef .tc (Pipeline.arrRef spec0 w)) := fun
  | 0 => ((dat m c).arrAt_in 0 rfl _).trans (V2_of m (outs m) c main_arg0 (by decide)).symm
  | 1 => ((dat m c).arrAt_in 1 rfl _).trans (V2_of m (outs m) c main_arg1 (by decide)).symm
  | 2 => ((dat m c).arrAt_in 2 rfl _).trans (V2_of m (outs m) c main_arg4 (by decide)).symm
  | 3 => ((dat m c).arrAt_in 3 rfl _).trans (V2_of m (outs m) c main_v16 (by decide)).symm
  | 4 => ((dat m c).arrAt_in 4 rfl _).trans (V2_of m (outs m) c main_v18 (by decide)).symm
  | 5 => (Vend_out m c).symm

set_option backward.isDefEq.respectTransparency.types false in
def reg : Pipeline.RegionSeg (pcfgs (F := F)) adm (pdats m) () (defs₀ (F := F)) Variants.none L lv 0 :=
  Pipeline.RegionSeg.ofTalk (pcfgs (F := F)) adm (pdats m) () (defs₀ (F := F)) Variants.none L lv 0 osem osem_facts
    ∅ others (Finset.empty_subset _) launch0.toP rfl (fun c => (body m c).loose)
    (fun _ => 0) Cert.Ring.O₀ (fun c => (owed_zero m c).trans (zero_add _).symm) (owed_last m) (fun _ => rfl) (share_eq m)
    (V1 m) (Vend m) (end_others m)
    (Tk m) (Yk (F := F)) (Xk m) (Yk (F := F)) (enter m) (enter_inv m) (fun c => leave_inv m (Vend m c) c)
    (fun c => by iintro H; imodintro; iexact H)
    (fun _ => 0)
    ⟨fun c w s => by rw [L_tc]; exact Finset.mem_singleton_self _, fun _ w s => stage_lv w s, fun c t g i h => cut m c t g i h⟩
    (fun _ => iprop(emp))
    (fun _ _ => rfl) (end_arr m)

end Cert.Ring

end
-- ==== Proof.Model.lean ====
module

-- What the body leaves, written as attention: one term per head, per group of heads and per device.

public import proofs.«01_k».proof.Proof.Region
public import Idealize.ShloMosaic.Lib.Pipeline.ReadBack
public import Idealize.ShloMosaic.Lib.Pipeline.FrameBody

@[expose] public section

noncomputable section

namespace Cert.Ring

open Cert.KernelIdeal Cert.KernelIdeal.Gen
open Idealize.ShloMosaic
open Idealize.ShloMosaic.TcCoe

variable {F : FTy → Type} [FloatOps F] [Named F]

/-! ## One group of heads, over any float values -/

/-- The weights of one head before they are divided by their sum: `exp (q · kᵀ + bias)` at the head's 64 columns. -/
def weights (o : Fin 2 → ℕ) (h : S256x256.Slices o S256x64) (q k b : FVec F S256x256 .bf16) : FVec F S256x256 .bf16 :=
  exp (addf (truncf .bf16 (matmul dot_S256x64_S256x64_S256x256_1_1_0_0_n_n none (extractStridedSlice S256x64 o q h)
    (extractStridedSlice S256x64 o k h) (constant S256x256 .f32 0x00000000#32)) bitsLt_bf16_f32) b)

/-- One head's context: the weighted sum of its values times the reciprocal of the weights' sum. -/
def head (o : Fin 2 → ℕ) (h : S256x256.Slices o S256x64) (q k v b : FVec F S256x256 .bf16) : FVec F S256x64 .f32 :=
  mulf (matmul dot_S256x256_S256x64_S256x64_1_0_0_1_n_n none (weights o h q k b) (extractStridedSlice S256x64 o v h) (constant S256x64 .f32 0x00000000#32))
    (broadcastTo S256x64 (divf (broadcast S256x1 (Scalar.ofBits .f32 0x3F800000#32))
      (shapeCast S256x1 (multiReduction .add [1] S256 (extf .f32 (weights o h q k b) bitsLt_bf16_f32) 0x00000000#32 reduces_S256x256_S256 (.inl rfl) rfl)
        shapeCasts_S256_S256x1)) broadcasts_S256x1_S256x64)

/-- The context of a group of four heads, side by side. -/
def ctx (q k v b : FVec F S256x256 .bf16) : FVec F S256x256 .bf16 :=
  truncf .bf16 (concatenate S256x256 1 [⟨S256x64, head ![0, 0] slices_S256x256_o0_0_S256x64 q k v b⟩, ⟨S256x64, head ![0, 64] slices_S256x256_o0_64_S256x64 q k v b⟩,
    ⟨S256x64, head ![0, 128] slices_S256x256_o0_128_S256x64 q k v b⟩, ⟨S256x64, head ![0, 192] slices_S256x256_o0_192_S256x64 q k v b⟩]
    concatenates_S256x64_S256x64_S256x64_S256x64_S256x256_d1) bitsLt_bf16_f32

/-- The queries of one batch entry for a group of heads. -/
def query (x : FVec F S1x256x512 .bf16) (w : FVec F S512x256 .bf16) : FVec F S256x256 .bf16 :=
  truncf .bf16 (matmul dot_S256x512_S512x256_S256x256_1_0_0_1_n_n none (shapeCast S256x512 x shapeCasts_S1x256x512_S256x512) w (constant S256x256 .f32 0x00000000#32))
    bitsLt_bf16_f32

/-- One batch entry's keys or values of a group of heads, cut out of the staged block at an offset. -/
def cols (x : FVec F S2x256x1024 .bf16) (off : Fin 3 → ℕ) (inb : ∀ a, off a + S1x256x256.size a ≤ S2x256x1024.size a) : FVec F S256x256 .bf16 :=
  shapeCast S256x256 (extractStridedSlice S1x256x256 off x ⟨rfl, inb⟩) shapeCasts_S1x256x256_S256x256

/-- One batch entry of the staged rows. -/
def entry (x : FVec F S2x256x512 .f32) (off : Fin 3 → ℕ) (inb : ∀ a, off a + S1x256x512.size a ≤ S2x256x512.size a) : FVec F S1x256x512 .bf16 :=
  extractStridedSlice S1x256x512 off (k0_pay1 x) ⟨rfl, inb⟩

/-- The bias: nothing at a key that a query sees, the mask's constant elsewhere. -/
def bias : FVec F S256x256 .bf16 := k0_pay4 (iota .tc S256x256 32 [0] iota_S256x256_d0_w32) (iota .tc S256x256 32 [1] iota_S256x256_d1_w32)

/-- What a group of heads adds to the result: its context times its rows of the output weights. -/
def mm (x : FVec F S256x256 .bf16) (w : FVec F S256x512 .bf16) : FVec F S256x512 .f32 :=
  matmul dot_S256x256_S256x512_S256x512_1_0_0_1_n_n none x w (constant S256x512 .f32 0x00000000#32)

variable (Q : Dev nD → wqB.ty.Contents (Elt F)) (O : Dev nD → woB.ty.Contents (Elt F))
variable (c : Dev nD) (x0 : cc0_stg0_0.ty.Contents (Elt F)) (x3 : cc0_stg3_0.ty.Contents (Elt F)) (x4 : cc0_stg4_0.ty.Contents (Elt F))

theorem v94_eq : bodyRun.sl.v94 (F := F) = bias := View.readCov_cons_toLoadRect _ _ _ _
theorem v110_eq : bodyRun.sl.v110 (F := F) = bias := View.readCov_cons_toLoadRect _ _ _ _
theorem v270_eq : bodyRun.sl.v270 (F := F) = bias := View.readCov_cons_toLoadRect _ _ _ _
theorem v538_eq : bodyRun.sl.v538 (F := F) = bias := View.readCov_cons_toLoadRect _ _ _ _

theorem v20_eq : bodyRun.sl.v20 (F := F) x0 = k0_pay1 x0 :=
  congrArg k0_pay1 (View.ld_unit_lit _ x0 (by decide))

/-- A batch entry read back from the rows that the body stored first. -/
theorem read_entry (off : Fin 3 → ℕ) (inb : ∀ a, off a + S1x256x512.size a ≤ S2x256x512.size a) :
    (Memref.whole cc0_scratch0).view.readCov (bodyRun.sl.H6_1 (F := F) x0) (Rect.unit (s := S2x256x512) off S1x256x512.size inb).toLoadRect = entry x0 off inb := by
  unfold bodyRun.sl.H6_1
  rw [v20_eq]
  refine (View.readCov_fill (s := S2x256x512) (Memref.whole cc0_scratch0).view _ _ _ _ (by decide)).trans ?_
  exact View.ld_unit (Val := Elt F) (S := S2x256x512) (e := .bf16) (k0_pay1 x0) off S1x256x512.size inb

/-- The staged keys at an offset are the cut there. -/
theorem keys_eq (off : Fin 3 → ℕ) (inb : ∀ a, off a + S1x256x256.size a ≤ S2x256x1024.size a) :
    shapeCast S256x256 (View.readAt (Elt F) (Memref.whole cc0_stg3_0).view (Rect.unit (s := S2x256x1024) off S1x256x256.size inb).toLoadRect x3) shapeCasts_S1x256x256_S256x256 = cols x3 off inb :=
  congrArg (shapeCast S256x256 · shapeCasts_S1x256x256_S256x256) (View.ld_unit (S := S2x256x1024) x3 off S1x256x256.size inb)

/-- The staged values likewise. -/
theorem vals_eq (off : Fin 3 → ℕ) (inb : ∀ a, off a + S1x256x256.size a ≤ S2x256x1024.size a) :
    shapeCast S256x256 (View.readAt (Elt F) (Memref.whole cc0_stg4_0).view (Rect.unit (s := S2x256x1024) off S1x256x256.size inb).toLoadRect x4) shapeCasts_S1x256x256_S256x256 = cols x4 off inb :=
  congrArg (shapeCast S256x256 · shapeCasts_S1x256x256_S256x256) (View.ld_unit (S := S2x256x1024) x4 off S1x256x256.size inb)

/-- A block of the query weights read whole. -/
theorem readQ (w : wqB.ty.Contents (Elt F)) :
    View.readAt (Elt F) (Memref.whole wqB).view (Rect.unit (s := S512x256) ![0, 0] S512x256.size inb_S512x256_S512x256_0_0).toLoadRect w = w :=
  View.ld_unit_lit (S := S512x256) _ w (by decide)

/-- A block of the output weights read whole. -/
theorem readO (w : woB.ty.Contents (Elt F)) :
    View.readAt (Elt F) (Memref.whole woB).view (Rect.unit (s := S256x512) ![0, 0] S256x512.size inb_S256x512_S256x512_0_0).toLoadRect w = w :=
  View.ld_unit_lit (S := S256x512) _ w (by decide)

theorem v79_eq : bodyRun.sl.v79 (F := F) x0 = entry x0 ![0, 0, 0] inb_S2x256x512_S1x256x512_0_0_0 := read_entry _ _ _
theorem v157_eq : bodyRun.sl.v157 (F := F) x0 = entry x0 ![1, 0, 0] inb_S2x256x512_S1x256x512_1_0_0 := read_entry _ _ _
theorem v255_eq : bodyRun.sl.v255 (F := F) x0 = entry x0 ![0, 0, 0] inb_S2x256x512_S1x256x512_0_0_0 := read_entry _ _ _
theorem v333_eq : bodyRun.sl.v333 (F := F) x0 = entry x0 ![1, 0, 0] inb_S2x256x512_S1x256x512_1_0_0 := read_entry _ _ _
theorem v523_eq : bodyRun.sl.v523 (F := F) x0 = entry x0 ![1, 0, 0] inb_S2x256x512_S1x256x512_1_0_0 := read_entry _ _ _
theorem v621_eq : bodyRun.sl.v621 (F := F) x0 = entry x0 ![0, 0, 0] inb_S2x256x512_S1x256x512_0_0_0 := read_entry _ _ _

/-! ## The eight contexts of the body: four groups of heads, two batch entries each -/

theorem v155_eq : bodyRun.sl.v155 Q c x0 x3 x4 = ctx (query (entry x0 ![0, 0, 0] inb_S2x256x512_S1x256x512_0_0_0) (Q c)) (cols x3 (k0_off1 c) (k0_off1_inb c)) (cols x4 (k0_off1 c) (k0_off1_inb c)) bias := by
  rw [← v79_eq, ← v94_eq, ← keys_eq, ← vals_eq, ← readQ (Q c)]; rfl

theorem v233_eq : bodyRun.sl.v233 Q c x0 x3 x4 = ctx (query (entry x0 ![1, 0, 0] inb_S2x256x512_S1x256x512_1_0_0) (Q c)) (cols x3 (k0_off2 c) (k0_off2_inb c)) (cols x4 (k0_off2 c) (k0_off2_inb c)) bias := by
  rw [← v157_eq, ← v110_eq, ← keys_eq, ← vals_eq, ← readQ (Q c)]; rfl

theorem v331_eq : bodyRun.sl.v331 Q c x0 x3 x4 = ctx (query (entry x0 ![0, 0, 0] inb_S2x256x512_S1x256x512_0_0_0) (Q (lf c))) (cols x3 (k0_off3 c) (k0_off3_inb c)) (cols x4 (k0_off3 c) (k0_off3_inb c)) bias := by
  rw [← v255_eq, ← v270_eq, ← keys_eq, ← vals_eq, ← readQ (Q (lf c))]; rfl

theorem v409_eq : bodyRun.sl.v409 Q c x0 x3 x4 = ctx (query (entry x0 ![1, 0, 0] inb_S2x256x512_S1x256x512_1_0_0) (Q (lf c))) (cols x3 (k0_off4 c) (k0_off4_inb c)) (cols x4 (k0_off4 c) (k0_off4_inb c)) bias := by
  rw [← v333_eq, ← v270_eq, ← keys_eq, ← vals_eq, ← readQ (Q (lf c))]; rfl

theorem v511_eq : bodyRun.sl.v511 Q c x0 x3 x4 = ctx (query (entry x0 ![0, 0, 0] inb_S2x256x512_S1x256x512_0_0_0) (Q (rt c))) (cols x3 (k0_off5 c 1#32) (k0_off5_inb c 0)) (cols x4 (k0_off5 c 1#32) (k0_off5_inb c 0)) bias := by
  rw [← v255_eq, ← v538_eq, ← keys_eq, ← vals_eq, ← readQ (Q (rt c))]; rfl

theorem v599_eq : bodyRun.sl.v599 Q c x0 x3 x4 = ctx (query (entry x0 ![1, 0, 0] inb_S2x256x512_S1x256x512_1_0_0) (Q (rt c))) (cols x3 (k0_off6 c 1#32) (k0_off6_inb c 0)) (cols x4 (k0_off6 c 1#32) (k0_off6_inb c 0)) bias := by
  rw [← v523_eq, ← v538_eq, ← keys_eq, ← vals_eq, ← readQ (Q (rt c))]; rfl

theorem v697_eq : bodyRun.sl.v697 Q c x0 x3 x4 = ctx (query (entry x0 ![0, 0, 0] inb_S2x256x512_S1x256x512_0_0_0) (Q (lf (lf c)))) (cols x3 (k0_off5 c 2#32) (k0_off5_inb c 1)) (cols x4 (k0_off5 c 2#32) (k0_off5_inb c 1)) bias := by
  rw [← v621_eq, ← v538_eq, ← keys_eq, ← vals_eq, ← readQ (Q (lf (lf c)))]; rfl

theorem v775_eq : bodyRun.sl.v775 Q c x0 x3 x4 = ctx (query (entry x0 ![1, 0, 0] inb_S2x256x512_S1x256x512_1_0_0) (Q (lf (lf c)))) (cols x3 (k0_off6 c 2#32) (k0_off6_inb c 1)) (cols x4 (k0_off6 c 2#32) (k0_off6_inb c 1)) bias := by
  rw [← v523_eq, ← v538_eq, ← keys_eq, ← vals_eq, ← readQ (Q (lf (lf c)))]; rfl

/-! ## The two batch entries of the result -/

/-- The place of the first batch entry in the result. -/
abbrev slot0 : Rect S2x256x512 := Rect.unit (s := S2x256x512) ![0, 0, 0] S1x256x512.size inb_S2x256x512_S1x256x512_0_0_0
/-- The place of the second. -/
abbrev slot1 : Rect S2x256x512 := Rect.unit (s := S2x256x512) ![1, 0, 0] S1x256x512.size inb_S2x256x512_S1x256x512_1_0_0

/-- Under a store to the second entry, the first is what was last stored there. -/
theorem read_slot0 (x y : S1x256x512.Idx → Elt F .f32) (L : List (View.Piece (Elt F) S2x256x512 .f32)) :
    (Memref.whole cc0_stg5_0).view.readCov (⟨slot1, y⟩ :: ⟨slot0, x⟩ :: L) slot0.toLoadRect = x :=
  (View.readCov_skip (s := S2x256x512) (Memref.whole cc0_stg5_0).view slot1 y _ slot0.toLoadRect (by decide)).trans
    (View.readCov_cons_toLoadRect (s := S2x256x512) (Memref.whole cc0_stg5_0).view slot0 x L)

/-- And the other way round. -/
theorem read_slot1 (x y : S1x256x512.Idx → Elt F .f32) (L : List (View.Piece (Elt F) S2x256x512 .f32)) :
    (Memref.whole cc0_stg5_0).view.readCov (⟨slot0, x⟩ :: ⟨slot1, y⟩ :: L) slot1.toLoadRect = y :=
  (View.readCov_skip (s := S2x256x512) (Memref.whole cc0_stg5_0).view slot0 x _ slot1.toLoadRect (by decide)).trans
    (View.readCov_cons_toLoadRect (s := S2x256x512) (Memref.whole cc0_stg5_0).view slot1 y L)

/-- A matrix given a leading unit axis and relieved of it again. -/
theorem cast_cast (x : FVec F S256x512 .f32) :
    shapeCast S256x512 (shapeCast S1x256x512 x shapeCasts_S256x512_S1x256x512) shapeCasts_S1x256x512_S256x512 = x :=
  shapeCast_shapeCast x _ _

/-- Four groups' shares added up in the order in which the body reaches them. -/
def total (a b d e : FVec F S256x512 .f32) : FVec F S1x256x512 .f32 :=
  shapeCast S1x256x512 (addf (addf (addf a b) d) e) shapeCasts_S256x512_S1x256x512

theorem v787_eq : bodyRun.sl.v787 Q O c x0 x3 x4 = total
    (mm (bodyRun.sl.v155 Q c x0 x3 x4) (O c)) (mm (bodyRun.sl.v331 Q c x0 x3 x4) (O (lf c)))
    (mm (bodyRun.sl.v511 Q c x0 x3 x4) (O (rt c))) (mm (bodyRun.sl.v697 Q c x0 x3 x4) (O (rt (rt c)))) := by
  have h1 : bodyRun.sl.v416 Q O c x0 x3 x4 = bodyRun.sl.v238 Q O c x0 x3 x4 := read_slot0 _ _ _
  have h2 : bodyRun.sl.v602 Q O c x0 x3 x4 = bodyRun.sl.v421 Q O c x0 x3 x4 := read_slot0 _ _ _
  have h3 : bodyRun.sl.v782 Q O c x0 x3 x4 = bodyRun.sl.v607 Q O c x0 x3 x4 := read_slot0 _ _ _
  unfold bodyRun.sl.v787 bodyRun.sl.v784 bodyRun.sl.v783
  rw [h3]
  unfold bodyRun.sl.v607
  rw [cast_cast]
  unfold bodyRun.sl.v604 bodyRun.sl.v603
  rw [h2]
  unfold bodyRun.sl.v421
  rw [cast_cast]
  unfold bodyRun.sl.v418 bodyRun.sl.v417
  rw [h1]
  unfold bodyRun.sl.v238
  rw [cast_cast, ← readO (O c), ← readO (O (lf c)), ← readO (O (rt c)), ← readO (O (rt (rt c)))]
  rfl

theorem v795_eq : bodyRun.sl.v795 Q O c x0 x3 x4 = total
    (mm (bodyRun.sl.v233 Q c x0 x3 x4) (O c)) (mm (bodyRun.sl.v409 Q c x0 x3 x4) (O (lf c)))
    (mm (bodyRun.sl.v599 Q c x0 x3 x4) (O (rt c))) (mm (bodyRun.sl.v775 Q c x0 x3 x4) (O (rt (rt c)))) := by
  have h1 : bodyRun.sl.v424 Q O c x0 x3 x4 = bodyRun.sl.v243 Q O c x0 x3 x4 := read_slot1 _ _ _
  have h2 : bodyRun.sl.v610 Q O c x0 x3 x4 = bodyRun.sl.v429 Q O c x0 x3 x4 := read_slot1 _ _ _
  have h3 : bodyRun.sl.v790 Q O c x0 x3 x4 = bodyRun.sl.v615 Q O c x0 x3 x4 := read_slot1 _ _ _
  unfold bodyRun.sl.v795 bodyRun.sl.v792 bodyRun.sl.v791
  rw [h3]
  unfold bodyRun.sl.v615
  rw [cast_cast]
  unfold bodyRun.sl.v612 bodyRun.sl.v611
  rw [h2]
  unfold bodyRun.sl.v429
  rw [cast_cast]
  unfold bodyRun.sl.v426 bodyRun.sl.v425
  rw [h1]
  unfold bodyRun.sl.v243
  rw [cast_cast, ← readO (O c), ← readO (O (lf c)), ← readO (O (rt c)), ← readO (O (rt (rt c)))]
  rfl

/-! ## The whole result, group by group -/

theorem inbK (b : Fin 2) (e : Dev nD) : ∀ a, (![b.val, 0, 256 * e.val] : Fin 3 → ℕ) a + S1x256x256.size a ≤ S2x256x1024.size a := by
  revert b e; decide

theorem inbX (b : Fin 2) : ∀ a, (![b.val, 0, 0] : Fin 3 → ℕ) a + S1x256x512.size a ≤ S2x256x512.size a := by
  revert b; decide

/-- The share of device `e`'s group of heads in batch entry `b` of the result. -/
def share (b : Fin 2) (e : Dev nD) : FVec F S256x512 .f32 :=
  mm (ctx (query (entry x0 ![b.val, 0, 0] (inbX b)) (Q e)) (cols x3 ![b.val, 0, 256 * e.val] (inbK b e)) (cols x4 ![b.val, 0, 256 * e.val] (inbK b e)) bias) (O e)

theorem cols_congr (x : FVec F S2x256x1024 .bf16) {o o' : Fin 3 → ℕ} (h : o = o') (inb) (inb') : cols x o inb = cols x o' inb' := by
  subst h; rfl

/-- A share written at an offset of any spelling. -/
theorem share_of (b : Fin 2) (e e' : Dev nD) (he : e' = e) (o : Fin 3 → ℕ) (ho : o = ![b.val, 0, 256 * e.val]) (i1) (i2) (i3) :
    mm (ctx (query (entry x0 ![b.val, 0, 0] i1) (Q e)) (cols x3 o i2) (cols x4 o i3) bias) (O e') = share Q O x0 x3 x4 b e := by
  subst ho he; rfl

/-- The result is, for each batch entry, the sum of the four groups' shares: the device's own, its left neighbour's, its right neighbour's and the opposite one's. -/
theorem result_eq : glue (bodyRun.sl.v787 Q O c x0 x3 x4) (bodyRun.sl.v795 Q O c x0 x3 x4) =
    glue (total (share Q O x0 x3 x4 0 c) (share Q O x0 x3 x4 0 (lf c)) (share Q O x0 x3 x4 0 (rt c)) (share Q O x0 x3 x4 0 (lf (lf c))))
      (total (share Q O x0 x3 x4 1 c) (share Q O x0 x3 x4 1 (lf c)) (share Q O x0 x3 x4 1 (rt c)) (share Q O x0 x3 x4 1 (lf (lf c)))) := by
  have e2 : ∀ c : Dev nD, (c.val + (1 : Fin 2).val + 1) % 4 = (lf (lf c)).val := by decide
  have h6 := k0_off6_eq c 1
  have h5 := k0_off5_eq c 1
  rw [e2] at h5 h6
  rw [v787_eq, v795_eq, v155_eq, v233_eq, v331_eq, v409_eq, v511_eq, v599_eq, v697_eq, v775_eq]
  exact congrArg₂ glue
    (congr (congr (congr (congrArg total (share_of Q O x0 x3 x4 0 c c rfl _ (k0_off1_eq c) _ _ _)) (share_of Q O x0 x3 x4 0 (lf c) _ rfl _ (k0_off3_eq c) _ _ _))
      (share_of Q O x0 x3 x4 0 (rt c) _ rfl _ (k0_off5_eq c 0) _ _ _)) (share_of Q O x0 x3 x4 0 (lf (lf c)) _ (rt_rt c) _ h5 _ _ _))
    (congr (congr (congr (congrArg total (share_of Q O x0 x3 x4 1 c c rfl _ (k0_off2_eq c) _ _ _)) (share_of Q O x0 x3 x4 1 (lf c) _ rfl _ (k0_off4_eq c) _ _ _))
      (share_of Q O x0 x3 x4 1 (rt c) _ rfl _ (k0_off6_eq c 0) _ _ _)) (share_of Q O x0 x3 x4 1 (lf (lf c)) _ (rt_rt c) _ h6 _ _ _))

variable (m : (ℓ : Loc nD τ sig) → Buf (Elt F) ℓ)

/-- What the run leaves on a device, in these terms. -/
theorem left_eq : left m c =
    glue (total (share (sentQ m) (sentO m) (stX m c) (stK m c) (stV m c) 0 c) (share (sentQ m) (sentO m) (stX m c) (stK m c) (stV m c) 0 (lf c))
        (share (sentQ m) (sentO m) (stX m c) (stK m c) (stV m c) 0 (rt c)) (share (sentQ m) (sentO m) (stX m c) (stK m c) (stV m c) 0 (lf (lf c))))
      (total (share (sentQ m) (sentO m) (stX m c) (stK m c) (stV m c) 1 c) (share (sentQ m) (sentO m) (stX m c) (stK m c) (stV m c) 1 (lf c))
        (share (sentQ m) (sentO m) (stX m c) (stK m c) (stV m c) 1 (rt c)) (share (sentQ m) (sentO m) (stX m c) (stK m c) (stV m c) 1 (lf (lf c)))) :=
  Eq.trans rfl (result_eq (sentQ m) (sentO m) c (stX m c) (stK m c) (stV m c))

end Cert.Ring

end
-- ==== Proof.Sums.lean ====
module

-- Sums and softmax over the extended reals.

public import Idealize.ShloMosaic.Lib.Pointwise
public import Idealize.ShloMosaic.Lib.IdealHost

@[expose] public section

noncomputable section

namespace Cert.Sums

open Idealize.ShloMosaic

/-- A sum of reals is the same sum taken in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor goes into a sum, whatever infinities the sum has. -/
theorem sum_mul_real {ι : Type} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A quotient of reals by a real other than zero. -/
theorem div_real (a b : ℝ) (hb : b ≠ 0) : Ideal.div (a : EReal) (b : EReal) = ((a * b⁻¹ : ℝ) : EReal) := by
  unfold Ideal.div
  rw [if_neg (by exact_mod_cast hb), EReal.coe_mul, EReal.coe_inv]

/-- The greatest of finitely many values, none of them plus infinity and one of them more than minus infinity, is a real. -/
theorem fold_max_real {n : ℕ} (f : Fin n → EReal) (h : ∀ k, f k < ⊤) (k0 : Fin n) (h0 : ⊥ < f k0) :
    ∃ M : ℝ, Finset.fold max (⊥ : EReal) f Finset.univ = (M : EReal) := by
  have hlt : Finset.fold max (⊥ : EReal) f Finset.univ < ⊤ := (Finset.fold_max_lt _).2 ⟨bot_lt_top, fun k _ => h k⟩
  have hgt : ⊥ < Finset.fold max (⊥ : EReal) f Finset.univ := (Finset.lt_fold_max _).2 (Or.inr ⟨k0, Finset.mem_univ _, h0⟩)
  exact ⟨_, (EReal.coe_toReal hlt.ne hgt.ne').symm⟩

/-- A sum by bits that meets a 1 is 1. -/
theorem fold_ori_one {n : ℕ} (f : Fin n → BitVec 1) (k0 : Fin n) (h0 : f k0 = 1#1) : Finset.fold IntOp.ori (0#1) f Finset.univ = 1#1 := by
  rw [← Finset.insert_erase (Finset.mem_univ k0), Finset.fold_insert (Finset.notMem_erase _ _), h0]
  generalize Finset.fold IntOp.ori (0#1) f (Finset.univ.erase k0) = y
  revert y; decide

section Softmax

variable (r : Fin 256 → ℝ) (p : Fin 256 → Prop) [DecidablePred p]

/-- A weight: the exponential of a seen key's score, nothing for another key. -/
def wt (k : Fin 256) : ℝ := if p k then Real.exp (r k) else 0

theorem exp_bias (k : Fin 256) : Ideal.exp ((r k : EReal) + if p k then 0 else ⊥) = (wt r p k : EReal) := by
  unfold wt
  by_cases h : p k
  · rw [if_pos h, if_pos h, add_zero]; rfl
  · rw [if_neg h, if_neg h, EReal.add_bot]; rfl

theorem exp_less (M : ℝ) (k : Fin 256) : Ideal.exp ((if p k then (r k : EReal) else ⊥) - (M : EReal)) = ((wt r p k * Real.exp (-M) : ℝ) : EReal) := by
  unfold wt
  by_cases h : p k
  · rw [if_pos h, if_pos h, ← EReal.coe_sub, ← Real.exp_add, ← sub_eq_add_neg]; rfl
  · rw [if_neg h, if_neg h, zero_mul, EReal.bot_sub]; rfl

theorem sum_wt_pos (k0 : Fin 256) (h0 : p k0) : 0 < ∑ k, wt r p k :=
  Finset.sum_pos' (fun k _ => by unfold wt; split <;> positivity) ⟨k0, Finset.mem_univ _, by unfold wt; rw [if_pos h0]; positivity⟩

/-- Weights multiplied into the values and then divided by their sum are the softmax of the seen scores, taken less any number, times the values. -/
theorem softmax_eq (k0 : Fin 256) (h0 : p k0) (M : ℝ) (v : Fin 256 → EReal) :
    (∑ k, Ideal.exp ((r k : EReal) + if p k then 0 else ⊥) * v k) * Ideal.div 1 (∑ k, Ideal.exp ((r k : EReal) + if p k then 0 else ⊥)) =
      ∑ k, v k * Ideal.div (Ideal.exp ((if p k then (r k : EReal) else ⊥) - (M : EReal))) (∑ k', Ideal.exp ((if p k' then (r k' : EReal) else ⊥) - (M : EReal))) := by
  have hS := sum_wt_pos r p k0 h0
  simp only [exp_bias, exp_less, ← coe_sum, ← Finset.sum_mul]
  rw [show (1 : EReal) = ((1 : ℝ) : EReal) from rfl, div_real _ _ hS.ne', sum_mul_real _ _ _ (by positivity)]
  refine Finset.sum_congr rfl fun k _ => ?_
  rw [div_real _ _ (mul_pos hS (Real.exp_pos _)).ne', mul_right_comm, ← EReal.coe_mul, mul_comm]
  congr 2
  have := (Real.exp_pos (-M)).ne'
  field_simp

end Softmax

/-- A sum over 1024 columns is the sum, over four groups of 256, of the groups' sums. -/
theorem sum_groups (f : Fin 1024 → EReal) : ∑ J, f J = ∑ e : Fin 4, ∑ j : Fin 256, f ⟨256 * e.val + j.val, by omega⟩ := by
  rw [← Equiv.sum_comp (finProdFinEquiv (m := 4) (n := 256)) f, Fintype.sum_prod_type]
  refine Finset.sum_congr rfl fun e _ => Finset.sum_congr rfl fun j _ => congrArg f (Fin.ext ?_)
  show j.val + 256 * e.val = 256 * e.val + j.val
  omega

end Cert.Sums

end
-- ==== Proof.Whole.lean ====
module

-- The reference's result in stages, and what each stage holds at an index.

public import proofs.«01_k».proof.Proof.Gen.ReferenceIdeal.Run
public import proofs.«01_k».proof.Proof.Sums

@[expose] public section

noncomputable section

namespace Cert.Whole

open Cert.ReferenceIdeal Cert.ReferenceIdeal.Gen
open Idealize.ShloMosaic
open Idealize.ShloMosaic.TcCoe

variable {F : FTy → Type} [FloatOps F]

/-- The mask: the keys within 128 positions of a query, the first 32 keys, and every key for the first 32 queries. -/
def seen : IVec S256x256 1 :=
  ori (cmpi .sle (absi (subi (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))))
      (broadcastInDim S256x256 ![] bcast_S_S256x256 (constantI S_ 32 128#32)))
    (ori (broadcastInDim S256x256 ![0, 1] bcast_S1x256_S256x256_0_1
        (cmpi .slt (broadcastInDim S1x256 ![1] bcast_S256_S1x256_1 (iotaInDim S256 32 0)) (broadcastInDim S1x256 ![] bcast_S_S1x256 (constantI S_ 32 32#32))))
      (broadcastInDim S256x256 ![0, 1] bcast_S256x1_S256x256_0_1
        (cmpi .slt (broadcastInDim S256x1 ![0] bcast_S256_S256x1_0 (iotaInDim S256 32 0)) (broadcastInDim S256x1 ![] bcast_S_S256x1 (constantI S_ 32 32#32)))))

/-- Whether a query sees any key. -/
def anySeen : IVec S256 1 := Host.reduce IntOp.ori seen (constantI S_ 1 0#1) reducesTo_S256x256_S256_d1 h_S_

variable (X : FVec F S8x256x512 .f32) (W : FVec F S512x1024 .f32) (K V : FVec F S8x256x16x64 .f32) (O : FVec F S1024x512 .f32)

/-- The projected queries, head by head. -/
def queries : FVec F S8x256x16x64 .f32 :=
  shapeCast S8x256x16x64 (Host.dotGeneral dot_S8x256x512_S512x1024_S8x256x1024_2_0_01_1_n_n none X W) shapeCasts_S8x256x1024_S8x256x16x64

/-- The scaled scores. -/
def scores : FVec F S8x16x256x256 .f32 :=
  mulf (Host.dotGeneral dot_S8x256x16x64_S8x256x16x64_S8x16x256x256_3_3_1_1_02_02 none (queries X W) K)
    (broadcastInDim S8x16x256x256 ![] bcast_S_S8x16x256x256 (constant S_ .f32 0x3E000000#32))

/-- The scores with the unseen keys at minus infinity. -/
def masked : FVec F S8x16x256x256 .f32 :=
  select (broadcastInDim S8x16x256x256 ![0, 1, 2, 3] bcast_S1x1x256x256_S8x16x256x256_0_1_2_3 (broadcastInDim S1x1x256x256 ![2, 3] bcast_S256x256_S1x1x256x256_2_3 seen))
    (scores X W K) (broadcastInDim S8x16x256x256 ![] bcast_S_S8x16x256x256 (id (constant S_ .f32 0xFF800000#32)))

/-- The greatest score of a query. -/
def top : FVec F S8x16x256 .f32 :=
  Host.reduce FloatOps.maximumf (masked X W K) (constant S_ .f32 0xFF800000#32) reducesTo_S8x16x256x256_S8x16x256_d3 h_S_

/-- The exponentials of the scores less the greatest. -/
def raised : FVec F S8x16x256x256 .f32 :=
  Host.exp (subf (masked X W K) (broadcastInDim S8x16x256x256 ![0, 1, 2, 3] bcast_S8x16x256x1_S8x16x256x256_0_1_2_3
    (broadcastInDim S8x16x256x1 ![0, 1, 2] bcast_S8x16x256_S8x16x256x1_0_1_2 (top X W K))))

/-- Their sum along the keys. -/
def sums : FVec F S8x16x256 .f32 := Host.reduceAdd (raised X W K) (constant S_ .f32 0x00000000#32) reducesTo_S8x16x256x256_S8x16x256_d3 h_S_

/-- The attention weights. -/
def soft : FVec F S8x16x256x256 .f32 :=
  select (broadcastInDim S8x16x256x256 ![0, 1, 2, 3] bcast_S1x1x256x1_S8x16x256x256_0_1_2_3 (broadcastInDim S1x1x256x1 ![2] bcast_S256_S1x1x256x1_2 anySeen))
    (Host.divf (raised X W K) (broadcastInDim S8x16x256x256 ![0, 1, 2, 3] bcast_S8x16x256x1_S8x16x256x256_0_1_2_3
      (select (broadcastInDim S8x16x256x1 ![0, 1, 2, 3] bcast_S1x1x256x1_S8x16x256x1_0_1_2_3 (broadcastInDim S1x1x256x1 ![2] bcast_S256_S1x1x256x1_2 anySeen))
        (broadcastInDim S8x16x256x1 ![0, 1, 2] bcast_S8x16x256_S8x16x256x1_0_1_2 (sums X W K))
        (broadcastInDim S8x16x256x1 ![] bcast_S_S8x16x256x1 (id (constant S_ .f32 0x3F800000#32))))))
    (broadcastInDim S8x16x256x256 ![] bcast_S_S8x16x256x256 (id (constant S_ .f32 0x00000000#32)))

/-- The contexts of all heads side by side. -/
def context : FVec F S8x256x1024 .f32 :=
  shapeCast S8x256x1024 (transpose S8x256x16x64 [0, 3, 1, 2] (Host.dotGeneral dot_S8x256x16x64_S8x16x256x256_S8x16x64x256_1_3_3_2_02_01 none V (soft X W K))
    transposes_S8x16x64x256_S8x256x16x64_0_3_1_2) shapeCasts_S8x256x16x64_S8x256x1024

/-- The reference's result. -/
def out : FVec F S8x256x512 .f32 :=
  Host.dotGeneral dot_S8x256x1024_S1024x512_S8x256x512_2_0_01_1_n_n none (context X W K V) O

theorem result_eq (m : (ℓ : Loc nD τ sig) → Buf (Elt F) ℓ) (c : Dev nD) :
    Value.res_main_v42 m c = out (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The stages at an index, over the extended reals -/

section Ideal

variable (X : FVec Ideal S8x256x512 .f32) (W : FVec Ideal S512x1024 .f32) (K V : FVec Ideal S8x256x16x64 .f32) (O : FVec Ideal S1024x512 .f32)

/-- The scale of the scores, one eighth. -/
abbrev scale : EReal := Ideal.ofBits .f32 0x3E000000#32

theorem scale_eq : scale = (((1 : ℝ) / 8 : ℝ) : EReal) := by
  simp [scale, Ideal.ofBits, Ideal.ieee, -EReal.coe_mul]; norm_num

theorem ofBits_bot : Ideal.ofBits .f32 0xFF800000#32 = ⊥ := by
  simp [Ideal.ofBits, Ideal.ieee]

/-- Every query sees itself. -/
theorem seen_self (i : Fin 256) : seen (ix2 i i) = 1#1 := by
  pointwise [seen]
  revert i; decide +kernel

theorem anySeen_eq (i : Fin 256) : anySeen (ix1 i) = 1#1 := by
  pointwise [anySeen]
  exact Sums.fold_ori_one _ i (seen_self i)

/-- A score with the scale put on the query weights. -/
def score (b : Fin 8) (h : Fin 16) (i k : Fin 256) : EReal :=
  ∑ y : Fin 64, (∑ z : Fin 512, X (ix3 b i z) * (W (ix2 z ⟨h.val * 64 + y.val, by omega⟩) * scale)) * K (ix4 b k h y)

/-- A weight before it is divided by the weights' sum. -/
def weight (b : Fin 8) (h : Fin 16) (i k : Fin 256) : EReal := Ideal.exp (score X W K b h i k + Scalar.select (seen (ix2 i k)) 0 ⊥)

/-- One element of a head's context, with the reciprocal of the weights' sum multiplied in last. -/
def attend (b : Fin 8) (h : Fin 16) (i : Fin 256) (d : Fin 64) : EReal :=
  (∑ k, weight X W K b h i k * V (ix4 b k h d)) * Ideal.div 1 (∑ k, weight X W K b h i k)

variable (hX : ∀ i, ∃ r : ℝ, X i = (r : EReal)) (hW : ∀ i, ∃ r : ℝ, W i = (r : EReal)) (hK : ∀ i, ∃ r : ℝ, K i = (r : EReal))

include hX hW hK in
/-- Over finite arrays the two ways to scale a score give one real. -/
theorem score_real (b : Fin 8) (h : Fin 16) (i k : Fin 256) : ∃ r : ℝ, scores X W K (ix4 b h i k) = (r : EReal) ∧ score X W K b h i k = (r : EReal) := by
  choose x hx using hX
  choose w hw using hW
  choose κ hκ using hK
  refine ⟨(∑ y : Fin 64, (∑ z : Fin 512, x (ix3 b i z) * w (ix2 z ⟨h.val * 64 + y.val, by omega⟩)) * κ (ix4 b k h y)) * (1 / 8), ?_, ?_⟩
  · pointwise [scores, queries]
    simp only [hx, hw, hκ, ← EReal.coe_mul, ← Sums.coe_sum, scale_eq]
  · unfold score
    simp only [hx, hw, hκ, ← EReal.coe_mul, ← Sums.coe_sum, scale_eq]
    rw [Finset.sum_mul]
    refine congrArg _ (Finset.sum_congr rfl fun y _ => ?_)
    rw [mul_right_comm]
    refine congrArg (· * _) ?_
    rw [Finset.sum_mul]
    exact Finset.sum_congr rfl fun z _ => (mul_assoc _ _ _).symm

include hX hW hK in
/-- The reference's context is the one with the reciprocal multiplied in last. -/
theorem context_eq (b : Fin 8) (i : Fin 256) (j : Fin 1024) :
    context X W K V (ix3 b i j) = attend X W K V b ⟨j.val / 64, by omega⟩ i ⟨j.val % 64, by omega⟩ := by
  generalize hh : (⟨j.val / 64, by omega⟩ : Fin 16) = h
  generalize hd : (⟨j.val % 64, by omega⟩ : Fin 64) = d
  choose r hr hs using score_real X W K hX hW hK b h i
  have hm : ∀ k, masked X W K (ix4 b h i k) = if seen (ix2 i k) = 1#1 then (r k : EReal) else ⊥ := fun k => by
    pointwise [masked, id]
    rw [hr, ofBits_bot]; rfl
  obtain ⟨M, hM⟩ : ∃ M : ℝ, top X W K (ix3 b h i) = (M : EReal) := by
    pointwise [top]
    rw [ofBits_bot]
    refine Sums.fold_max_real _ (fun k => ?_) i ?_
    · rw [hm]; split
      · exact EReal.coe_lt_top _
      · exact bot_lt_top
    · rw [hm, if_pos (seen_self i)]; exact EReal.bot_lt_coe _
  have hraised : ∀ k, raised X W K (ix4 b h i k) = Ideal.exp ((if seen (ix2 i k) = 1#1 then (r k : EReal) else ⊥) - (M : EReal)) := fun k => by
    pointwise [raised]
    rw [hm, hM]
  have hsoft : ∀ k, soft X W K (ix4 b h i k) = Ideal.div (Ideal.exp ((if seen (ix2 i k) = 1#1 then (r k : EReal) else ⊥) - (M : EReal)))
      (∑ k', Ideal.exp ((if seen (ix2 i k') = 1#1 then (r k' : EReal) else ⊥) - (M : EReal))) := fun k => by
    pointwise [soft]
    rw [anySeen_eq, hraised]
    show Ideal.div _ (sums X W K (ix3 b h i)) = _
    pointwise [sums]
    simp only [hraised]
  have hw : ∀ k, weight X W K b h i k = Ideal.exp ((r k : EReal) + if seen (ix2 i k) = 1#1 then 0 else ⊥) := fun k => by
    unfold weight; rw [hs]; rfl
  have e : context X W K V (ix3 b i j) = ∑ k, V (ix4 b k h d) * soft X W K (ix4 b h i k) := by
    subst hh hd
    pointwise [context]
  rw [e]
  unfold attend
  simp only [hsoft, hw]
  exact (Sums.softmax_eq r (fun k => seen (ix2 i k) = 1#1) i (seen_self i) M _).symm

/-- The share of the `e`-th group of four heads in one element of the result. -/
def share (e : Fin 4) (b : Fin 8) (i : Fin 256) (n : Fin 512) : EReal :=
  ∑ j : Fin 256, attend X W K V b ⟨4 * e.val + j.val / 64, by omega⟩ i ⟨j.val % 64, by omega⟩ * O (ix2 ⟨256 * e.val + j.val, by omega⟩ n)

include hX hW hK in
/-- The result is the sum of the four groups' shares. -/
theorem out_eq (b : Fin 8) (i : Fin 256) (n : Fin 512) : out X W K V O (ix3 b i n) = ∑ e, share X W K V O e b i n := by
  pointwise [out]
  simp only [context_eq X W K V hX hW hK]
  rw [Sums.sum_groups]
  refine Finset.sum_congr rfl fun e _ => Finset.sum_congr rfl fun j _ => ?_
  congr 2
  · exact Fin.ext (by show (256 * e.val + j.val) / 64 = 4 * e.val + j.val / 64; omega)
  · exact Fin.ext (by show (256 * e.val + j.val) % 64 = j.val % 64; omega)

end Ideal

end Cert.Whole
-- ==== Proof.Attend.lean ====
module

-- What the kernel leaves, at an index and over the extended reals, met with the reference's groups of heads.

public import proofs.«01_k».proof.Proof.Model
public import proofs.«01_k».proof.Proof.Whole

@[expose] public section

noncomputable section

namespace Cert.Ring

open Cert.KernelIdeal Cert.KernelIdeal.Gen
open Idealize.ShloMosaic
open Idealize.ShloMosaic.TcCoe

/-- The bias is nothing at a seen key and minus infinity elsewhere. -/
theorem bias_apply (i k : Fin 256) : bias (F := Ideal) (ix2 i k) = Scalar.select (Whole.seen (ix2 i k)) 0 ⊥ := by
  pointwise [bias, k0_pay4, Whole.seen]
  rw [show ∀ a b c : BitVec 1, IntOp.ori (IntOp.ori a b) c = IntOp.ori a (IntOp.ori b c) from by decide]
  rfl

section Group

variable (q k v b : FVec Ideal S256x256 .bf16)

/-- One head's weight before it is divided by the weights' sum, the head the `a`-th of its group. -/
def weightAt (a : Fin 4) (i kk : Fin 256) : EReal :=
  Ideal.exp (∑ y : Fin 64, q (ix2 i ⟨64 * a.val + y.val, by omega⟩) * k (ix2 kk ⟨64 * a.val + y.val, by omega⟩) + b (ix2 i kk))

/-- One element of that head's context. -/
def headAt (a : Fin 4) (i : Fin 256) (d : Fin 64) : EReal :=
  (∑ kk, weightAt q k b a i kk * v (ix2 kk ⟨64 * a.val + d.val, by omega⟩)) * Ideal.div 1 (∑ kk, weightAt q k b a i kk)

theorem ctx_at (a : Fin 4) (i : Fin 256) (d : Fin 64) : ctx q k v b (ix2 i ⟨64 * a.val + d.val, by omega⟩) = headAt q k v b a i d := by
  match a with
  | 0 | 1 => pointwise [ctx, head, weights, headAt, weightAt]
  | 2 =>
    pointwise [ctx, head, weights, headAt, weightAt]
    have h : 128 + d.val - 64 - 64 = d.val := by omega
    rw [dif_neg (by omega), dif_neg (by omega), dif_pos (by omega)]
    simp only [h]
  | 3 =>
    pointwise [ctx, head, weights, headAt, weightAt]
    have h : 192 + d.val - 64 - 64 - 64 = d.val := by omega
    rw [dif_neg (by omega), dif_neg (by omega), dif_neg (by omega)]
    simp only [h]

theorem ctx_apply (i j : Fin 256) : ctx q k v b (ix2 i j) = headAt q k v b ⟨j.val / 64, by omega⟩ i ⟨j.val % 64, by omega⟩ := by
  rw [← ctx_at]
  congr 2
  exact Fin.ext (by show j.val = 64 * (j.val / 64) + j.val % 64; omega)

end Group

/-- A group's share, on a device whose blocks are cut out of whole arrays, is that group's share of the reference's result. -/
theorem share_apply (X : FVec Ideal ⟨3, ![8, 256, 512]⟩ .f32) (W : FVec Ideal ⟨2, ![512, 1024]⟩ .f32) (K V : FVec Ideal ⟨4, ![8, 256, 16, 64]⟩ .f32)
    (A : FVec Ideal ⟨2, ![1024, 512]⟩ .f32) (Q : Dev nD → FVec Ideal S512x256 .bf16) (O : Dev nD → FVec Ideal S256x512 .bf16) (c : Dev nD)
    (x0 : FVec Ideal S2x256x512 .f32) (x3 x4 : FVec Ideal S2x256x1024 .bf16)
    (hx : ∀ (b : Fin 2) i z, x0 (ix3 b i z) = X (ix3 ⟨2 * c.val + b.val, by have := c.isLt; change c.val < 4 at this; omega⟩ i z))
    (hq : ∀ (e : Fin 4) z (j : Fin 256), Q e (ix2 z j) = W (ix2 z ⟨256 * e.val + j.val, by omega⟩) * Whole.scale)
    (hk : ∀ (b : Fin 2) k (j : Fin 1024), x3 (ix3 b k j) = K (ix4 ⟨2 * c.val + b.val, by have := c.isLt; change c.val < 4 at this; omega⟩ k ⟨j.val / 64, by omega⟩ ⟨j.val % 64, by omega⟩))
    (hv : ∀ (b : Fin 2) k (j : Fin 1024), x4 (ix3 b k j) = V (ix4 ⟨2 * c.val + b.val, by have := c.isLt; change c.val < 4 at this; omega⟩ k ⟨j.val / 64, by omega⟩ ⟨j.val % 64, by omega⟩))
    (ho : ∀ (e : Fin 4) (j : Fin 256) n, O e (ix2 j n) = A (ix2 ⟨256 * e.val + j.val, by omega⟩ n))
    (b : Fin 2) (e : Fin 4) (i : Fin 256) (n : Fin 512) :
    share (F := Ideal) Q O x0 x3 x4 b e (ix2 i n) = Whole.share X W K V A e ⟨2 * c.val + b.val, by have := c.isLt; change c.val < 4 at this; omega⟩ i n := by
  pointwise [share, mm]
  unfold Whole.share
  refine Finset.sum_congr rfl fun j _ => ?_
  rw [ho, ctx_apply]
  refine congrArg (· * _) ?_
  unfold headAt Whole.attend
  have hw : ∀ kk, weightAt (query (entry x0 ![b.val, 0, 0] (inbX b)) (Q e)) (cols x3 ![b.val, 0, 256 * e.val] (inbK b e)) bias ⟨j.val / 64, by omega⟩ i kk =
      Whole.weight X W K ⟨2 * c.val + b.val, by have := c.isLt; change c.val < 4 at this; omega⟩ ⟨4 * e.val + j.val / 64, by omega⟩ i kk := fun kk => by
    pointwise [weightAt, query, entry, k0_pay1, cols]
    unfold Whole.weight Whole.score
    rw [bias_apply]
    refine congrArg Ideal.exp (congrArg (· + _) (Finset.sum_congr rfl fun y _ => ?_))
    have e1 : 256 * e.val + (64 * (j.val / 64) + y.val) = (4 * e.val + j.val / 64) * 64 + y.val := by omega
    have e2 : ((4 * e.val + j.val / 64) * 64 + y.val) / 64 = 4 * e.val + j.val / 64 := by omega
    have e3 : ((4 * e.val + j.val / 64) * 64 + y.val) % 64 = y.val := by omega
    simp only [hx, hq, hk, e1, e2, e3]
  have hval : ∀ kk, cols x4 ![b.val, 0, 256 * e.val] (inbK b e) (ix2 kk ⟨64 * (j.val / 64) + j.val % 64, by omega⟩) =
      V (ix4 ⟨2 * c.val + b.val, by have := c.isLt; change c.val < 4 at this; omega⟩ kk ⟨4 * e.val + j.val / 64, by omega⟩ ⟨j.val % 64, by omega⟩) := fun kk => by
    pointwise [cols]
    have e2 : (256 * e.val + (64 * (j.val / 64) + j.val % 64)) / 64 = 4 * e.val + j.val / 64 := by omega
    have e3 : (256 * e.val + (64 * (j.val / 64) + j.val % 64)) % 64 = j.val % 64 := by omega
    simp only [hv, e2, e3]
  simp only [hw, hval]

end Cert.Ring

end
-- ==== Proof.Run.lean ====
module

-- The launch: every cell's invariant, every token to the device that pays it, the launch credit; and the run of the program.

public import proofs.«01_k».proof.Proof.Region
public import Idealize.ShloMosaic.Lib.StableHlo.RunHlo

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and the tokens -/

theorem dev_of_cell {c c' : Dev nD} {a b : SemLoc sig} (h : (((c : Thread nD τ), a) : GSem nD τ sig) = ((c' : Thread nD τ), b)) : c = c' :=
  congrArg (fun g : GSem nD τ sig => g.1.1) h

def barEmb : Dev nD ↪ GSem nD τ sig := ⟨fun c => barCell c, fun _ _ h => dev_of_cell h⟩
def ownEmb : Dev nD × Fin 12 ↪ GSem nD τ sig :=
  ⟨fun x => ((x.1 : Thread nD τ), osem x.2), fun _ _ h => Prod.ext (dev_of_cell h) (osem_facts.inj (congrArg Prod.snd h))⟩
abbrev barCells : Finset (GSem nD τ sig) := Finset.univ.map barEmb
abbrev ownCells : Finset (GSem nD τ sig) := Finset.univ.map ownEmb

/-- The duties of a device's cells: on the barrier both, on each transfer cell the one. -/
def dutySem : Fin 14 → SemLoc sig × Bool := fun
  | 0 => (.reg barrier0, true) | 1 => (.reg barrier0, false) | 2 => (.dma (sS 0), true) | 3 => (.dma (sS 1), true) | 4 => (.dma (sS 2), true) | 5 => (.dma (sS 3), true) | 6 => (.dma (sS 4), true) | 7 => (.dma (sS 5), true) | 8 => (.dma (sR 0), true) | 9 => (.dma (sR 1), true) | 10 => (.dma (sR 2), true) | 11 => (.dma (sR 3), true) | 12 => (.dma (sR 4), true) | 13 => (.dma (sR 5), true)
theorem dutySem_inj : Function.Injective dutySem := by decide
def dutyEmb : Dev nD × Fin 14 ↪ GSem nD τ sig × ℕ × Bool :=
  ⟨fun x => (((x.1 : Thread nD τ), (dutySem x.2).1), 0, (dutySem x.2).2), fun _ _ h =>
    Prod.ext (congrArg (fun t : GSem nD τ sig × ℕ × Bool => t.1.1.1) h)
      (dutySem_inj (Prod.ext (congrArg (fun t : GSem nD τ sig × ℕ × Bool => t.1.2) h) (congrArg (fun t : GSem nD τ sig × ℕ × Bool => t.2.2) h)))⟩
abbrev duties : Finset (GSem nD τ sig × ℕ × Bool) := Finset.univ.map dutyEmb

theorem disjoint_cells : Disjoint barCells ownCells := by
  rw [Finset.disjoint_left]
  rintro g h₁ h₂
  obtain ⟨c, -, rfl⟩ := Finset.mem_map.mp h₁
  obtain ⟨x, -, h⟩ := Finset.mem_map.mp h₂
  exact (by decide : ∀ k, osem k ≠ .reg barrier0) x.2 (congrArg Prod.snd h)

theorem bar_mem (c : Dev nD) : barCell c ∈ barCells ∪ ownCells :=
  Finset.mem_union_left _ (Finset.mem_map_of_mem barEmb (Finset.mem_univ c))
theorem own_mem (c : Dev nD) (k : Fin 12) : ((c : Thread nD τ), osem k) ∈ barCells ∪ ownCells :=
  Finset.mem_union_right _ (Finset.mem_map_of_mem ownEmb (Finset.mem_univ (c, k)))

/-- The launch element of both copies of the algebra. -/
def u₀ : UU :=
  (initOf (Pipeline.cells cfgs cellOf_inj) (Pipeline.launchToks cfgs cellOf_inj), launchOf barCells ownCells duties)

/-- The ring's launch element rides on device 0 until every device's resources are dealt at once. -/
def G (c : Dev nD) : sProp 𝕄 := if c = 0 then BI.own (ER (launchOf barCells ownCells duties)) else iprop(emp)
theorem G_all : bigSep Finset.univ (G (F := F)) = BI.own (ER (launchOf barCells ownCells duties)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What every device may consult, what stays with one -/

def records (K : GSem nD τ sig → ℕ) : sProp 𝕄 :=
  iprop((bigSep (barCells ∪ ownCells) fun g => cellInv ER (sched (sentQ m) (sentO m)) (K g) g) ∗ bigSep barCells fun g => reached ER g 0)

instance records_persistent (K : GSem nD τ sig → ℕ) : BI.Persistent (records m K) := by unfold records; infer_instance

theorem inv_bar (K : GSem nD τ sig → ℕ) (c : Dev nD) :
    (bigSep (barCells ∪ ownCells) fun g => (cellInv ER (sched (sentQ m) (sentO m)) (K g) g : sProp 𝕄)) ⊢ cellInv ER (sched (sentQ m) (sentO m)) (K (barCell c)) (barCell c) :=
  bigSep_elim (bar_mem c)
theorem inv_own (K : GSem nD τ sig → ℕ) (c : Dev nD) (k : Fin 12) :
    (bigSep (barCells ∪ ownCells) fun g => (cellInv ER (sched (sentQ m) (sentO m)) (K g) g : sProp 𝕄))
      ⊢ cellInv ER (sched (sentQ m) (sentO m)) (K ((c : Thread nD τ), osem k)) ((c : Thread nD τ), osem k) :=
  bigSep_elim (own_mem c k)
theorem reached_bar (c : Dev nD) : (bigSep barCells fun g => (reached ER g 0 : sProp 𝕄)) ⊢ reached ER (barCell c) 0 :=
  bigSep_elim (Finset.mem_map_of_mem barEmb (Finset.mem_univ c))

def linear (c : Dev nD) : sProp 𝕄 :=
  iprop(atPos ER (barCell c) 0 ∅ 0 ∗ (bigSep Finset.univ fun k : Fin 12 => openTok ER ((c : Thread nD τ), osem k)) ∗ toks (F := F) c)

theorem ghost_intro (K : GSem nD τ sig → ℕ) (c : Dev nD) : iprop(records m K ∗ linear (F := F) c) ⊢ iprop(∃ K, ghost m K c) := by
  unfold records linear ghost invs sndInvs peerInvs
  iintro ⟨⟨#HI, #HR⟩, Ha, Ho, Ht⟩
  iexists K
  isplitr
  · isplitr; · iapply (inv_bar m K c); iexact HI
    isplitr; · iapply (inv_bar m K (lf c)); iexact HI
    isplitr; · iapply (inv_bar m K (rt c)); iexact HI
    isplitr; · iapply (inv_own m K c 6); iexact HI
    isplitr; · iapply (inv_own m K c 7); iexact HI
    isplitr; · iapply (inv_own m K c 8); iexact HI
    isplitr; · iapply (inv_own m K c 9); iexact HI
    isplitr; · iapply (inv_own m K c 10); iexact HI
    iapply (inv_own m K c 11); iexact HI
  isplitr
  · isplitr; · iapply (inv_own m K c 0); iexact HI
    isplitr; · iapply (inv_own m K c 1); iexact HI
    isplitr; · iapply (inv_own m K c 2); iexact HI
    isplitr; · iapply (inv_own m K c 3); iexact HI
    isplitr; · iapply (inv_own m K c 4); iexact HI
    iapply (inv_own m K c 5); iexact HI
  isplitr
  · isplitr; · iapply (inv_own m K (rt c) 6); iexact HI
    isplitr; · iapply (inv_own m K (rt c) 7); iexact HI
    isplitr; · iapply (inv_own m K (lf c) 8); iexact HI
    isplitr; · iapply (inv_own m K (lf c) 9); iexact HI
    isplitr; · iapply (inv_own m K (rt c) 10); iexact HI
    iapply (inv_own m K (lf c) 11); iexact HI
  isplitr; · iapply (reached_bar (F := F) (lf c)); iexact HR
  isplitr; · iapply (reached_bar (F := F) (rt c)); iexact HR
  isplitl [Ha]; · iexact Ha
  isplitl [Ho]; · iexact Ho
  iexact Ht

/-- Each device's own tokens as they are made, -/
def made (c : Dev nD) : sProp 𝕄 :=
  iprop(dutyTok ER (barCell c) 0 true ∗ dutyTok ER (barCell c) 0 false ∗ dutyTok ER (sendCell c 0) 0 true ∗ dutyTok ER (sendCell c 1) 0 true ∗ dutyTok ER (sendCell c 2) 0 true ∗ dutyTok ER (sendCell c 3) 0 true ∗ dutyTok ER (sendCell c 4) 0 true ∗ dutyTok ER (sendCell c 5) 0 true ∗ dutyTok ER (recvCell c 0) 0 true ∗ dutyTok ER (recvCell c 1) 0 true ∗ dutyTok ER (recvCell c 2) 0 true ∗ dutyTok ER (recvCell c 3) 0 true ∗ dutyTok ER (recvCell c 4) 0 true ∗ dutyTok ER (recvCell c 5) 0 true)

theorem bigSep_14 {M : Type} [URA M] (Φ : Fin 14 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

theorem made_eq : bigSep duties (fun x => (dutyTok ER x.1 x.2.1 x.2.2 : sProp 𝕄)) = bigSep Finset.univ fun c : Dev nD => made (F := F) c := by
  rw [bigSep_map, bigSep_univ_prod]
  exact bigSep_congr fun c _ => bigSep_14 _

/-- and handed round: a barrier or receive token goes to the neighbour that pays it. -/
theorem handed : (bigSep Finset.univ fun c : Dev nD => made (F := F) c) ⊢ bigSep Finset.univ fun c : Dev nD => toks (F := F) c := by
  unfold made toks
  simp only [bigSep_sep']
  rw [bigSep_univ_equiv toLf (fun c : Dev nD => (dutyTok ER (barCell c) 0 true : sProp 𝕄)),
    bigSep_univ_equiv toRt (fun c : Dev nD => (dutyTok ER (barCell c) 0 false : sProp 𝕄)),
    bigSep_univ_equiv toRt (fun c : Dev nD => (dutyTok ER (recvCell c 0) 0 true : sProp 𝕄)),
    bigSep_univ_equiv toRt (fun c : Dev nD => (dutyTok ER (recvCell c 1) 0 true : sProp 𝕄)),
    bigSep_univ_equiv toLf (fun c : Dev nD => (dutyTok ER (recvCell c 2) 0 true : sProp 𝕄)),
    bigSep_univ_equiv toLf (fun c : Dev nD => (dutyTok ER (recvCell c 3) 0 true : sProp 𝕄)),
    bigSep_univ_equiv toRt (fun c : Dev nD => (dutyTok ER (recvCell c 4) 0 true : sProp 𝕄)),
    bigSep_univ_equiv toLf (fun c : Dev nD => (dutyTok ER (recvCell c 5) 0 true : sProp 𝕄))]
  exact BI.Entails.refl _

/-! ## The launch credit -/

theorem tally_perm (e : Dev nD ≃ Dev nD) (c : Dev nD) (a b : SemLoc sig) (n : ℕ) :
    (∑ d : Dev nD, (tallyAt ((e d : Thread nD τ), a) () n : CellTallies nD τ sig Unit) ((c : Thread nD τ), b) ()) = if b = a then n else 0 := by
  rw [Equiv.sum_comp e fun d : Dev nD => (tallyAt ((d : Thread nD τ), a) () n : CellTallies nD τ sig Unit) ((c : Thread nD τ), b) ()]
  by_cases h : b = a
  · subst h
    rw [if_pos rfl, Finset.sum_eq_single c]
    · rw [tallyAt_apply, if_pos ⟨rfl, rfl⟩]
    · intro d _ hd; rw [tallyAt_apply, if_neg fun h => hd (dev_of_cell h.1).symm]
    · intro h; exact absurd (Finset.mem_univ c) h
  · rw [if_neg h]
    refine Finset.sum_eq_zero fun d _ => ?_
    rw [tallyAt_apply, if_neg fun h' => h (congrArg Prod.snd h'.1)]

theorem tally_rt (c : Dev nD) (a b : SemLoc sig) (n : ℕ) :
    (∑ d : Dev nD, (tallyAt ((rt d : Thread nD τ), a) () n : CellTallies nD τ sig Unit) ((c : Thread nD τ), b) ()) = if b = a then n else 0 :=
  tally_perm toRt c a b n
theorem tally_lf (c : Dev nD) (a b : SemLoc sig) (n : ℕ) :
    (∑ d : Dev nD, (tallyAt ((lf d : Thread nD τ), a) () n : CellTallies nD τ sig Unit) ((c : Thread nD τ), b) ()) = if b = a then n else 0 :=
  tally_perm toLf c a b n

/-- What all devices together owe a cell of device `c`. -/
theorem owed_sum (c : Dev nD) (b : SemLoc sig) : (∑ d : Dev nD, O₀ d ((c : Thread nD τ), b) ())
    = (if b = .dma (sR 5) then nO else 0) + (if b = .dma (sR 4) then nQ else 0) + (if b = .dma (sR 3) then nO else 0) + (if b = .dma (sR 2) then nQ else 0)
      + (if b = .dma (sR 1) then nO else 0) + (if b = .dma (sR 0) then nQ else 0) + (if b = .reg barrier0 then 1 else 0) + (if b = .reg barrier0 then 1 else 0) := by
  unfold O₀
  simp only [Pi.add_apply, Finsupp.add_apply, Finset.sum_add_distrib, tally_rt, tally_lf]

theorem credit_at (c : Dev nD) (b : SemLoc sig) (n : ℕ) (h : (∑ d : Dev nD, O₀ d ((c : Thread nD τ), b) ()) = n) :
    tallyOn ((c : Thread nD τ), b) (launchCredit (Pipeline.owing O₀) 0 ((c : Thread nD τ), b)) = (tallyAt ((c : Thread nD τ), b) () n : CellTallies nD τ sig Unit) := by
  unfold tallyAt; refine congrArg _ (Finsupp.ext fun u => ?_); cases u
  rw [Pipeline.launchCredit_owing, Finsupp.single_eq_same, h]

theorem creds_of (c : Dev nD) : (Pipeline.launchCred O₀ c : sProp 𝕄) ⊢ creds (F := F) c := by
  unfold Pipeline.launchCred creds
  refine (BI.bigSep_subset (Finset.subset_univ ([.reg barrier0, .dma (sR 0), .dma (sR 1), .dma (sR 2), .dma (sR 3), .dma (sR 4), .dma (sR 5)] : List (SemLoc sig)).toFinset)).trans ?_
  rw [bigSep_eq_bigSepL_of_eq ([.reg barrier0, .dma (sR 0), .dma (sR 1), .dma (sR 2), .dma (sR 3), .dma (sR 4), .dma (sR 5)] : List (SemLoc sig)) rfl (by decide)]
  simp only [bigSepL]
  rw [credit_at c (.reg barrier0) 2 (by rw [owed_sum]; rfl),
    credit_at c (.dma (sR 0)) nQ (by rw [owed_sum]; simp (decide := true) only [if_true, if_false, Nat.add_zero, Nat.zero_add]),
    credit_at c (.dma (sR 1)) nO (by rw [owed_sum]; simp (decide := true) only [if_true, if_false, Nat.add_zero, Nat.zero_add]),
    credit_at c (.dma (sR 2)) nQ (by rw [owed_sum]; simp (decide := true) only [if_true, if_false, Nat.add_zero, Nat.zero_add]),
    credit_at c (.dma (sR 3)) nO (by rw [owed_sum]; simp (decide := true) only [if_true, if_false, Nat.add_zero, Nat.zero_add]),
    credit_at c (.dma (sR 4)) nQ (by rw [owed_sum]; simp (decide := true) only [if_true, if_false, Nat.add_zero, Nat.zero_add]),
    credit_at c (.dma (sR 5)) nO (by rw [owed_sum]; simp (decide := true) only [if_true, if_false, Nat.add_zero, Nat.zero_add])]
  exact BI.Entails.refl _

/-! ## The run -/

/-- What rides beside the buffers: from launch to the region, and from the region on. -/
def E : Fin 2 → Dev nD → sProp 𝕄
  | 0, c => iprop(((∃ K, ghost m K c) ∗ creds (F := F) c) ∗ (∃ r, prngReg c r) ∗ ∃ W, owes (c : Thread nD τ) (O₀ c) W)
  | 1, c => iprop(semVal (barCell c) 0 ∗ ∃ W, owes (c : Thread nD τ) (0 : CellTallies nD τ sig Unit) W)

theorem sems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

/-- What of a device's launch holdings is not the protocol's ghost state. -/
def rest (c : Dev nD) : sProp 𝕄 :=
  iprop(creds (F := F) c ∗ (∃ r, prngReg c r) ∗ owes (c : Thread nD τ) (O₀ c) ∅)

theorem start (K : GSem nD τ sig → ℕ) (c : Dev nD) : iprop(records m K ∗ (linear (F := F) c ∗ rest (F := F) c)) ⊢ E m 0 c := by
  unfold rest; dsimp only [E]
  iintro ⟨#HR, Hl, Hc, Hp, HO⟩
  isplitl [Hl Hc]
  · isplitl [Hl]
    · iapply (ghost_intro m K c)
      isplitr; · iexact HR
      iexact Hl
    iexact Hc
  isplitl [Hp]; · iexact Hp
  iexists ∅; iexact HO

theorem deal :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(rest (F := F) c ∗ (semVal (barCell c) 0 ∗ G (F := F) c)) : sProp 𝕄) := by
    rw [sems_eq]
    unfold rest
    iintro ⟨Hus, HO, Hcr, Hp, HG⟩
    ihave Hc := (creds_of (F := F) c) $$ Hcr
    isplitl [Hc HO Hp]
    · isplitl [Hc]; · iexact Hc
      isplitl [Hp]; · iexists (ρ c); iexact Hp
      iexact HO
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun k : Fin 12 => (openTok ER ((c : Thread nD τ), osem k) : sProp 𝕄)) :=
    Entails.of_eq (by rw [bigSep_map, bigSep_univ_prod]; rfl)
  have hall : (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(rest (F := F) c ∗ (semVal (barCell c) 0 ∗ G (F := F) c)) : sProp 𝕄) := bigSep_mono fun c _ => hcore c
  iintro ⟨H, -⟩
  ihave H' := hall $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (G_all (F := F))) $$ HG
  imod (Rounds.fund_launch ER (sched (sentQ m) (sentO m)) disjoint_cells (fun g _ h => h) duties) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear (F := F) c ∗ rest (F := F) c)) fun c _ => start m K c)
  isplitr
  · unfold records
    isplitr; · iexact Hinv
    iexact Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (handed (F := F))
    iapply (Entails.of_eq (made_eq (F := F))) $$ Htok
  · iexact HB

theorem arrs_sub : Pipeline.arrRefs (τ := τ) spec0 ⊆ Pipeline.ucRefs τ sig := by decide

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split (c.tc : Thread nD τ) arrs_sub (V1 m c), zero_add]
  dsimp only [E]; unfold Tk
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (Vend m c) ∗ E m 1 c) := by
  show iprop(StableHlo.held (c.tc : Thread nD τ) (Pipeline.arrRefs (τ := τ) spec0) (Vend m c) ∗ (∃ r, prngReg c r)
    ∗ (StableHlo.held (c.tc : Thread nD τ) others (Vend m c) ∗ emp) ∗ Yk (F := F) c ∗ ∃ Wd, owes (c : Thread nD τ) (0 : CellTallies nD τ sig Unit) Wd) ⊢ _
  rw [StableHlo.held_sub_split (c.tc : Thread nD τ) arrs_sub (Vend m c)]
  dsimp only [E]; unfold Yk
  iintro ⟨Ha, -, ⟨Hr, -⟩, Hb, HO⟩
  isplitl [Ha Hr]; · isplitl [Ha] <;> iassumption
  isplitl [Hb] <;> iassumption

theorem unscoped_sem : ∀ sm : SemLoc sig, sm.isScoped .tc = false → sm = .reg barrier0 := by decide

set_option backward.isDefEq.respectTransparency.types false in
/-- From any memory with zero counters every weakly fair execution of the program on the four devices terminates; in every final
    state each unscoped buffer of device `c` holds what `Vend m c` says and every counter is zero. -/
theorem run_all : θ_run defs (onTc (τ := τ) (main (F := F))) ⟨m, fun _ => 0, ρ⟩
    (fun r => (∀ (c : Dev nD) (b : Ref sig .tc), (Proc.devRef .tc b : DevRef τ sig) ∈ Pipeline.ucRefs τ sig →
        r.2.mem ((c : Thread nD τ).loc b) = Vend m c b) ∧ r.2.sem = fun _ => 0) := by
  refine Pipeline.θ_run_regions_kit_dev_sems (pcfgs (F := F)) adm (pdats m) () cellOf_inj EP (defs₀ (F := F)) Variants.none L lv m ρ main
    (segs m Variants.none L lv (E m) () (pdats m) (reg m))
    (fun c Q => by
      rewrite [main_chain c, Seg.run_eq_chain,
        show (segs m Variants.none L lv (E m) () (pdats m) (reg m) c).map Seg.prog
          = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide) O₀ L_of_ne (G (F := F)) u₀
    (by
      unfold u₀
      iintro Hu
      ihave H := (ownU_pair _ _) $$ Hu
      icases H with ⟨HP, HX⟩
      imodintro
      isplitl [HP]; · iexact HP
      rw [G_all]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (Vend m c) ∗ semVal (barCell c) 0))
    (hch := fun c => ⟨.rfl, reg_pre m c, (reg_post m c).trans (by
      dsimp only [E]
      iintro ⟨Hh, Hb, HO⟩
      isplitr [HO]
      · isplitl [Hh] <;> iassumption
      · iexact HO)⟩)
    (hinit := ?_)
    (QY := fun c s => (∀ b ∈ Pipeline.ucRefs τ sig, s.mem (c, b) = Vend m c b) ∧ s.sem (barCell c) = 0)
    (hfin := fun c s' => ?_)
    (hQ := fun s h hs => ⟨fun c b hb => (h c).1 _ hb, sem_eq_zero hs fun c sm hsm => by
      obtain rfl := unscoped_sem sm hsm
      exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G (F := F) c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (deal m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨h, by simpa using hb⟩
    · iexact HSI

theorem unscoped_mem (b : Ref sig .tc) (h : b.isScoped = false) : (Proc.devRef .tc b : DevRef τ sig) ∈ Pipeline.ucRefs τ sig :=
  Finset.mem_filter.mpr ⟨StableHlo.devRef_mem_tcRefs b, by rw [show (Proc.devRef .tc b : DevRef τ sig).isScoped = b.isScoped from rfl, h]; decide⟩

/-- The same at the arguments, which are unchanged, and at the result. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v19) = (dat m c).arrAt 5 cfg0.N) ∧ r.2.sem = fun _ => 0) :=
  θ_run_mono (run_all m ρ) fun r h => ⟨fun c =>
    ⟨(h.1 c main_arg0 (unscoped_mem _ rfl)).trans (V2_main_arg0 m (outs m) c), (h.1 c main_arg1 (unscoped_mem _ rfl)).trans (V2_main_arg1 m (outs m) c),
      (h.1 c main_arg2 (unscoped_mem _ rfl)).trans (V2_main_arg2 m (outs m) c), (h.1 c main_arg3 (unscoped_mem _ rfl)).trans (V2_main_arg3 m (outs m) c),
      (h.1 c main_arg4 (unscoped_mem _ rfl)).trans (V2_main_arg4 m (outs m) c), (h.1 c main_v19 (unscoped_mem _ rfl)).trans (Vend_out m c)⟩, h.2⟩

end Cert.Ring

end
-- ==== Proof.Value.lean ====
module

-- The kernel's output array: its windows' arrays, and each block of the result as the reference's.

public import proofs.«01_k».proof.Proof.Attend
public import proofs.«01_k».proof.Proof.Run
public import Idealize.ShloMosaic.Lib.StableHlo.ReadAt
public import Idealize.ShloMosaic.Lib.LayoutAt
public import Idealize.ShloMosaic.Lib.Pipeline.ValueKit

@[expose] public section

noncomputable section

namespace Cert.Ring

open Cert.KernelIdeal Cert.KernelIdeal.Gen
open Idealize.ShloMosaic
open Idealize.ShloMosaic.TcCoe

section Windows

variable {F : FTy → Type} [FloatOps F] [Named F]
variable (m : (ℓ : Loc nD τ sig) → Buf (Elt F) ℓ) (c : Dev nD)

/-- The window of x is the device's block of x. -/
theorem stX_eq : stX m c = m (c.tc.loc main_arg0) := by
  have e : win0_0.index t0_0 = ![0, 0, 0] := by decide +kernel
  refine Eq.trans ?_ (V1_of m c main_arg0 (by decide))
  funext j
  unfold stX blk
  blk_simp
  blk_ext [e]

/-- The window of the query weights is the device's block of them. -/
theorem stWq_eq : stWq m c = m (c.tc.loc main_arg1) := by
  have e : win0_1.index t0_0 = ![0, 0] := by decide +kernel
  refine Eq.trans ?_ (V1_of m c main_arg1 (by decide))
  funext j
  unfold stWq blk
  blk_simp
  blk_ext [e]

/-- The window of the output weights is the device's block of them. -/
theorem stWo_eq : stWo m c = m (c.tc.loc main_arg4) := by
  have e : win0_2.index t0_0 = ![0, 0] := by decide +kernel
  refine Eq.trans ?_ (V1_of m c main_arg4 (by decide))
  funext j
  unfold stWo blk
  blk_simp
  blk_ext [e]

/-- The window of the keys is the array that the host's slice leaves. -/
theorem stK_eq : stK m c = V1 m c main_v16 := by
  have e : win0_3.index t0_0 = ![0, 0, 0] := by decide +kernel
  funext j
  unfold stK blk
  blk_simp
  blk_ext [e]

/-- The window of the values is the array that the host's slice leaves. -/
theorem stV_eq : stV m c = V1 m c main_v18 := by
  have e : win0_4.index t0_0 = ![0, 0, 0] := by decide +kernel
  funext j
  unfold stV blk
  blk_simp
  blk_ext [e]

/-- The result array after the run is what the body left. -/
theorem out_arr : (dat m c).arrAt 5 cfg0.N = left m c := by
  refine (dat m c).arrAt_eq_of_after_last 5 t0_0 (by decide +kernel) _ fun j => ?_
  blk_simp
  rfl

end Windows

/-- The row of the keys that a device's slice starts at, as the program computes it. -/
def rowWord (c : Dev nD) : IVec S_ 32 :=
  select (cmpi .slt (muli (id (Host.remui (Host.divui (constantI S_ 32 (Dev.word c)) (constantI S_ 32 1#32)) (constantI S_ 32 4#32))) (constantI S_ 32 2#32)) (constantI S_ 32 0#32))
    (addi (muli (id (Host.remui (Host.divui (constantI S_ 32 (Dev.word c)) (constantI S_ 32 1#32)) (constantI S_ 32 4#32))) (constantI S_ 32 2#32)) (constantI S_ 32 8#32))
    (muli (id (Host.remui (Host.divui (constantI S_ 32 (Dev.word c)) (constantI S_ 32 1#32)) (constantI S_ 32 4#32))) (constantI S_ 32 2#32))

/-- It is twice the device's place. -/
theorem rowWord_eq (c : Dev nD) (i : S_.Idx) : (min (max (rowWord c i).toInt 0) 6).toNat = 2 * c.val := by
  simp only [rowWord, id_eq]
  pointwise
  revert c
  decide

/-- A row of a device's keys or values, cut from the whole and its heads laid side by side. -/
theorem place_eq (c : Dev nD) (b : Fin 2) (k : Fin 256) (j : Fin 1024) {p q r s : Nat} (hp hq hr hs) (h0 : p = 2 * c.val) (h1 : q = 0) (h2 : r = 0) (h3 : s = 0) :
    (ix4 ⟨p + b.val, hp⟩ ⟨q + k.val, hq⟩ ⟨r + j.val / 64, hr⟩ ⟨s + j.val % 64, hs⟩ : S8x256x16x64.Idx)
      = ix4 ⟨2 * c.val + b.val, by have := c.isLt; change c.val < 4 at this; omega⟩ k ⟨j.val / 64, by omega⟩ ⟨j.val % 64, by omega⟩ := by
  subst h0 h1 h2 h3
  simp only [Nat.zero_add]

variable (m : (ℓ : Loc nD τ sig) → Buf (Elt Ideal) ℓ) (c : Dev nD)
/-- A staged key is the whole array's, at the device's two batch entries. -/
theorem keys_at (b : Fin 2) (k : Fin 256) (j : Fin 1024) : stK m c (ix3 b k j)
    = m (c.tc.loc main_arg2) (ix4 ⟨2 * c.val + b.val, by have := c.isLt; change c.val < 4 at this; omega⟩ k ⟨j.val / 64, by omega⟩ ⟨j.val % 64, by omega⟩) := by
  rw [stK_eq]
  unfold V1
  after_reads_at
  dsimp only [Host.clampedStart, Matrix.cons_val]
  after_reads_simp
  exact congrArg (m (c.tc.loc main_arg2)) (place_eq c b k j _ _ _ _ (rowWord_eq c _) rfl rfl rfl)

/-- A staged value likewise. -/
theorem vals_at (b : Fin 2) (k : Fin 256) (j : Fin 1024) : stV m c (ix3 b k j)
    = m (c.tc.loc main_arg3) (ix4 ⟨2 * c.val + b.val, by have := c.isLt; change c.val < 4 at this; omega⟩ k ⟨j.val / 64, by omega⟩ ⟨j.val % 64, by omega⟩) := by
  rw [stV_eq]
  unfold V1
  after_reads_at
  dsimp only [Host.clampedStart, Matrix.cons_val]
  after_reads_simp
  exact congrArg (m (c.tc.loc main_arg3)) (place_eq c b k j _ _ _ _ (rowWord_eq c _) rfl rfl rfl)

/-- The query weights that a device sends are its block, scaled. -/
theorem sentQ_at (W : FVec Ideal S512x256 .f32) (h : m (c.tc.loc main_arg1) = W) (z : Fin 512) (j : Fin 256) :
    sentQ m c (ix2 z j) = W (ix2 z j) * Whole.scale := by
  unfold sentQ
  rw [stWq_eq, h]
  pointwise [k0_pay2]

/-- The output weights that a device sends are its block. -/
theorem sentO_at (j : Fin 256) (n : Fin 512) : sentO m c (ix2 j n) = m (c.tc.loc main_arg4) (ix2 j n) := by
  unfold sentO
  rw [stWo_eq]
  pointwise [k0_pay3]

/-- A device's block of an array cut along its first axis of three. -/
theorem block_rows (X : FVec Ideal ⟨3, ![8, 256, 512]⟩ .f32) (c : Dev nD) (b : Fin 2) (i : Fin 256) (z : Fin 512) :
    (Layout.block ⟨3, ![2, 256, 512]⟩ ⟨3, ![8, 256, 512]⟩ 0 4 c X) (ix3 b i z)
      = X (ix3 ⟨2 * c.val + b.val, by have := c.isLt; change c.val < 4 at this; omega⟩ i z) := by
  shard_ext

/-- A device's block of a matrix cut along its columns. -/
theorem block_cols (W : FVec Ideal ⟨2, ![512, 1024]⟩ .f32) (e : Fin 4) (z : Fin 512) (j : Fin 256) :
    (Layout.block ⟨2, ![512, 256]⟩ ⟨2, ![512, 1024]⟩ 1 4 e W) (ix2 z j) = W (ix2 z ⟨256 * e.val + j.val, by omega⟩) := by
  shard_ext

/-- A device's block of a matrix cut along its rows. -/
theorem block_heads (A : FVec Ideal ⟨2, ![1024, 512]⟩ .f32) (e : Fin 4) (j : Fin 256) (n : Fin 512) :
    (Layout.block ⟨2, ![256, 512]⟩ ⟨2, ![1024, 512]⟩ 0 4 e A) (ix2 j n) = A (ix2 ⟨256 * e.val + j.val, by omega⟩ n) := by
  shard_ext

/-- A sum around the ring, in the order the shares arrive. -/
theorem sum_ring (f : Fin 4 → EReal) (c : Dev nD) : f c + f (lf c) + f (rt c) + f (lf (lf c)) = ∑ e, f e := by
  rw [Fin.sum_univ_four]
  match c with
  | 0 => show f 0 + f 3 + f 1 + f 2 = _; abel
  | 1 => show f 1 + f 0 + f 2 + f 3 = _; abel
  | 2 => show f 2 + f 1 + f 3 + f 0 = _; abel
  | 3 => show f 3 + f 2 + f 0 + f 1 = _; abel

section Blocks

variable (X : FVec Ideal ⟨3, ![8, 256, 512]⟩ .f32) (W : FVec Ideal ⟨2, ![512, 1024]⟩ .f32) (K V : FVec Ideal ⟨4, ![8, 256, 16, 64]⟩ .f32)
  (A : FVec Ideal ⟨2, ![1024, 512]⟩ .f32)

/-- The devices' arguments are the whole arrays' blocks. -/
def Held : Prop := ∀ c : Dev nD,
  m (c.tc.loc main_arg0) = Layout.block ⟨3, ![2, 256, 512]⟩ ⟨3, ![8, 256, 512]⟩ 0 4 c X
  ∧ m (c.tc.loc main_arg1) = Layout.block ⟨2, ![512, 256]⟩ ⟨2, ![512, 1024]⟩ 1 4 c W
  ∧ m (c.tc.loc main_arg2) = K ∧ m (c.tc.loc main_arg3) = V
  ∧ m (c.tc.loc main_arg4) = Layout.block ⟨2, ![256, 512]⟩ ⟨2, ![1024, 512]⟩ 0 4 c A

variable (h : Held m X W K V A)
include h

/-- A group's share of a device's result is the reference's. -/
theorem share_held (b : Fin 2) (e : Fin 4) (i : Fin 256) (n : Fin 512) :
    share (F := Ideal) (sentQ m) (sentO m) (stX m c) (stK m c) (stV m c) b e (ix2 i n)
      = Whole.share X W K V A e ⟨2 * c.val + b.val, by have := c.isLt; change c.val < 4 at this; omega⟩ i n :=
  share_apply X W K V A (sentQ m) (sentO m) c (stX m c) (stK m c) (stV m c)
    (fun b i z => by rw [stX_eq, (h c).1]; exact block_rows X c b i z)
    (fun e z j => (sentQ_at m e _ (h e).2.1 z j).trans (congrArg (· * Whole.scale) (block_cols W e z j)))
    (fun b k j => by rw [keys_at, (h c).2.2.1])
    (fun b k j => by rw [vals_at, (h c).2.2.2.1])
    (fun e j n => by rw [sentO_at, (h e).2.2.2.2]; exact block_heads A e j n) b e i n

variable (hX : ∀ i, ∃ r : ℝ, X i = (r : EReal)) (hW : ∀ i, ∃ r : ℝ, W i = (r : EReal)) (hK : ∀ i, ∃ r : ℝ, K i = (r : EReal))
include hX hW hK

/-- A device's result at an index is the reference's. -/
theorem left_at (b : Fin 2) (i : Fin 256) (n : Fin 512) : left m c (ix3 b i n)
    = Whole.out (F := Ideal) X W K V A (ix3 ⟨2 * c.val + b.val, by have := c.isLt; change c.val < 4 at this; omega⟩ i n) := by
  have hs := fun b e => share_held m c X W K V A h b e i n
  refine Eq.trans ?_ (Whole.out_eq X W K V A hX hW hK _ i n).symm
  rw [← sum_ring _ c, left_eq]
  match b with
  | 0 =>
    refine Eq.trans (b := total _ _ _ _ (ix3 0 i n)) rfl ?_
    pointwise [total]
    rw [hs, hs, hs, hs]
    rfl
  | 1 =>
    refine Eq.trans (b := total _ _ _ _ (ix3 0 i n)) rfl ?_
    pointwise [total]
    rw [hs, hs, hs, hs]
    rfl

/-- A device's result is its block of the reference's. -/
theorem left_block : left m c = Layout.block ⟨3, ![2, 256, 512]⟩ ⟨3, ![8, 256, 512]⟩ 0 4 c (Whole.out (F := Ideal) X W K V A) := by
  funext i
  rw [show i = ix3 (i 0) (i 1) (i 2) from by funext a; fin_cases a <;> rfl]
  exact (left_at m c X W K V A h hX hW hK (i 0) (i 1) (i 2)).trans (block_rows (Whole.out (F := Ideal) X W K V A) c (i 0) (i 1) (i 2)).symm

end Blocks

end Cert.Ring

end
-- ==== Proof.Finite.lean ====
module

-- The precondition read at an element: the reference's arrays hold reals.

public import proofs.«01_k».proof.Defs
public import proofs.«01_k».proof.Proof.Gen.Pre_finite_KernelIdeal
public import proofs.«01_k».proof.Proof.Value
public import Idealize.ShloMosaic.Lib.ReduceAll

@[expose] public section

noncomputable section

namespace Cert.Finite

open Idealize.ShloMosaic
open Cert.Pre_finite_KernelIdeal

/-- The bound of the precondition: infinity. -/
theorem ofBits_top : Ideal.ofBits .f32 0x7F800000#32 = ⊤ := by
  simp [Ideal.ofBits, Ideal.ieee]

/-- An extended real of magnitude below infinity is a real. -/
theorem real_of_abs (x : EReal) (h : BitVec.ofBool (decide (FloatOps.absf (F := Ideal) (φ := .f32) x < Ideal.ofBits .f32 0x7F800000#32)) = 1#1) : ∃ r : ℝ, x = (r : EReal) := by
  rw [ofBits_top] at h
  induction x using EReal.rec with
  | coe r => exact ⟨r, rfl⟩
  | bot => exact absurd h (by simp [FloatOps.absf])
  | top => exact absurd h (by simp [FloatOps.absf])

section Args

variable [Facts]

/-- The precondition at every element of the three arguments that it reads. -/
theorem real_args (x : FVec Ideal S2x256x512 .f32) (w : FVec Ideal S512x256 .f32) (k v : FVec Ideal S8x256x16x64 .f32) (o : FVec Ideal S256x512 .f32)
    (h : fn (F := Ideal) x w k v o = fun _ => 1#1) :
    (∀ i, ∃ r : ℝ, x i = (r : EReal)) ∧ (∀ i, ∃ r : ℝ, w i = (r : EReal)) ∧ (∀ i, ∃ r : ℝ, k i = (r : EReal)) := by
  dsimp only [fn] at h
  have h' := congrFun h (Shape.Idx.first Facts.h_S_)
  have ⟨hxw, hk⟩ := IntOp.andi_eq_one.1 h'
  have ⟨hx, hw⟩ := IntOp.andi_eq_one.1 hxw
  haveI : Subsingleton S_.Idx := ⟨fun a b => funext fun d => d.elim0⟩
  exact ⟨fun i => real_of_abs _ (Host.reduce_andi_all _ _ _ _ _ hx i), fun i => real_of_abs _ (Host.reduce_andi_all _ _ _ _ _ hw i),
    fun i => real_of_abs _ (Host.reduce_andi_all _ _ _ _ _ hk i)⟩

end Args

open Cert.Ring Cert.KernelIdeal in
/-- Where every device's arguments satisfy the precondition, the arrays they are blocks of hold reals. -/
theorem real_arrays [Cert.Pre_finite_KernelIdeal.Facts] (m : (ℓ : Loc nD τ sig) → Buf (Elt Ideal) ℓ)
    (X : FVec Ideal ⟨3, ![8, 256, 512]⟩ .f32) (W : FVec Ideal ⟨2, ![512, 1024]⟩ .f32) (K V : FVec Ideal ⟨4, ![8, 256, 16, 64]⟩ .f32)
    (A : FVec Ideal ⟨2, ![1024, 512]⟩ .f32) (h : Held m X W K V A) (hm : Cert.Pre_KernelIdeal_finite_KernelIdeal m) :
    (∀ i, ∃ r : ℝ, X i = (r : EReal)) ∧ (∀ i, ∃ r : ℝ, W i = (r : EReal)) ∧ (∀ i, ∃ r : ℝ, K i = (r : EReal)) := by
  have ha := fun c => real_args _ _ _ _ _ (hm c)
  refine ⟨fun i => ?_, fun i => ?_, fun i => ?_⟩
  · have h0 : (i 0).val < 8 := (i 0).isLt
    have hi : i = ix3 ⟨2 * ((i 0).val / 2) + (i 0).val % 2, by omega⟩ (i 1) (i 2) := by
      funext a; fin_cases a
      · exact Fin.ext (by show (i 0).val = 2 * ((i 0).val / 2) + (i 0).val % 2; omega)
      · rfl
      · rfl
    let c : Dev nD := ⟨(i 0).val / 2, by show _ < 4; omega⟩
    obtain ⟨r, hr⟩ := (ha c).1 (ix3 ⟨(i 0).val % 2, by omega⟩ (i 1) (i 2))
    refine ⟨r, Eq.trans ?_ hr⟩
    rw [(h c).1]
    exact (congrArg X hi).trans (block_rows X c ⟨(i 0).val % 2, by omega⟩ (i 1) (i 2)).symm
  · have h1 : (i 1).val < 1024 := (i 1).isLt
    have hi : i = ix2 (i 0) ⟨256 * ((i 1).val / 256) + (i 1).val % 256, by omega⟩ := by
      funext a; fin_cases a
      · rfl
      · exact Fin.ext (by show (i 1).val = 256 * ((i 1).val / 256) + (i 1).val % 256; omega)
    let c : Dev nD := ⟨(i 1).val / 256, by show _ < 4; omega⟩
    obtain ⟨r, hr⟩ := (ha c).2.1 (ix2 (i 0) ⟨(i 1).val % 256, by omega⟩)
    refine ⟨r, Eq.trans ?_ hr⟩
    rw [(h c).2.1]
    exact (congrArg W hi).trans (block_cols W c (i 0) ⟨(i 1).val % 256, by omega⟩).symm
  · obtain ⟨r, hr⟩ := (ha 0).2.2 i
    exact ⟨r, (congrFun (h 0).2.2.1 i).symm.trans hr⟩

end Cert.Finite

end
-- ==== Proof.lean ====
module

-- The claims, assembled.

public import proofs.«01_k».proof.Defs
public import proofs.«01_k».proof.Proof.Finite
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- At the machine's floats the named constant is the bit pattern that it replaces. -/
local instance bitsNamed : Named Bits := ⟨fun _ _ {t} b => Scalar.ofBits t b⟩

/-- At the machine's floats the idealized program is the kernel: the two texts differ in the named constant alone. -/
theorem main_eq : (Cert.Kernel.main (F := Bits) : Dev Cert.KernelIdeal.nD → _) = Cert.KernelIdeal.main (F := Bits) := rfl

/-- And so are their body tables: one label, the same body under it. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | ⟨0, _⟩, (t, s) => rfl

theorem defs_eq : Cert.Kernel.defs (F := Bits) = Cert.KernelIdeal.defs (F := Bits) :=
  congrArg (Pipeline.defs Cert.KernelIdeal.pcfgs) defs₀_eq

section Framed
open Cert.KernelIdeal

/-- The kernel's run, its result dropped, over any float values. -/
theorem framed {F : FTy → Type} [FloatOps F] [Named F] (m : (ℓ : Loc nD τ sig) → Buf (Elt F) ℓ) (g : Dev nD → PrngReg) :
    θ_run defs (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c =>
    ⟨(h.1 c).1, (h.1 c).2.1, (h.1 c).2.2.1, (h.1 c).2.2.2.1, (h.1 c).2.2.2.2.1⟩, h.2⟩) (Cert.Ring.run_main m g)

end Framed

/-- The kernel's frame: the idealized program's at the machine's floats. -/
theorem frame_kernel : Cert.quiescent_Kernel (hKernel := Cert.Kernel.Gen.facts) := by
  intro m g _
  have h := framed (F := Bits) m g
  rw [← main_eq, ← defs_eq] at h
  exact h

/-- The idealized kernel's frame. -/
theorem frame_ideal : Cert.quiescent_KernelIdeal (hKernelIdeal := Cert.KernelIdeal.Gen.facts) := fun m g _ => framed m g

/-- The reference's frame: host operations only, and no semaphore declared. -/
theorem frame_reference : Cert.quiescent_ReferenceIdeal (hReferenceIdeal := Cert.ReferenceIdeal.Gen.facts) := fun m g _ =>
  (θ_run Cert.ReferenceIdeal.defs _ _).mono (fun r h => ⟨fun c => (h c).2,
    Idealize.ShloMosaic.sem_eq_zero_of_no_sems (by decide) r.2⟩) (Cert.ReferenceIdeal.Value.run (F := Ideal) m g)

/-- The idealization's one rewrite: the mask's constant reads as minus infinity. -/
theorem preserved : Cert.preserves_Kernel_KernelIdeal :=
  IdealRules.named_const.statement Cert.KernelIdeal.κ "mask" .f32 0xCE6E6B28#32 ⊥ rfl

/-- Over the extended reals each device's result is its block of the reference's. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hm hag
  obtain ⟨hX, hW, hK⟩ := Cert.Finite.real_arrays m _ _ _ _ _ hag hm
  refine ⟨Cert.ReferenceIdeal.Value.res_main_v42 m' 0, ?_, ?_⟩
  · refine (θ_run Cert.KernelIdeal.defs _ _).mono (fun r h c => ?_) (Cert.Ring.run_main m g)
    have hc := h.1 c
    refine ⟨hc.2.2.2.2.2.trans ?_, hc.1, hc.2.1, hc.2.2.1, hc.2.2.2.1, hc.2.2.2.2.1⟩
    rw [Cert.Ring.out_arr]
    exact Cert.Ring.left_block m c _ _ _ _ _ hag hX hW hK
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m g _ => frame_ideal m g trivial, frame_reference, fun m g _ => frame_reference m g trivial,
  preserved, algebraic⟩

end Cert.Proof

end
